-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_ties [hPre_few_ties : Cert.Pre_few_ties.Facts] (m : (ℓ : Loc Cert.KernelIdeal.nD Cert.KernelIdeal.τ Cert.KernelIdeal.sig) → Buf (Elt Ideal) ℓ) : Prop :=
  ∀ c : Dev Cert.KernelIdeal.nD,
    (Cert.Pre_few_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_few_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_few_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_few_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_ties [hPre_few_ties : Cert.Pre_few_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_few_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_few_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_few_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_few_ties [hKernelIdeal : Cert.KernelIdeal.Facts] [hPre_few_ties : Cert.Pre_few_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_few_ties [hReferenceIdeal : Cert.ReferenceIdeal.Facts] [hPre_few_ties : Cert.Pre_few_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_few_ties [hKernelIdeal : Cert.KernelIdeal.Facts] [hReferenceIdeal : Cert.ReferenceIdeal.Facts] [hPre_few_ties : Cert.Pre_few_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_few_ties : Cert.Pre_few_ties.Facts),
    quiescent_Kernel (hKernel := hKernel)
    ∧ quiescent_KernelIdeal (hKernelIdeal := hKernelIdeal)
    ∧ quiescent_KernelIdeal_pre_few_ties (hKernelIdeal := hKernelIdeal) (hPre_few_ties := hPre_few_ties)
    ∧ quiescent_ReferenceIdeal (hReferenceIdeal := hReferenceIdeal)
    ∧ quiescent_ReferenceIdeal_pre_few_ties (hReferenceIdeal := hReferenceIdeal) (hPre_few_ties := hPre_few_ties)
    ∧ preserves_Kernel_KernelIdeal
    ∧ algebraic_KernelIdeal_ReferenceIdeal_pre_few_ties (hKernelIdeal := hKernelIdeal) (hReferenceIdeal := hReferenceIdeal) (hPre_few_ties := hPre_few_ties)
-- ==== Pre_few_ties.lean ====
abbrev S8x2048x3 : Shape := ⟨3, ![8, 2048, 3]⟩
abbrev S8x512x3 : Shape := ⟨3, ![8, 512, 3]⟩
abbrev S8x64x2048 : Shape := ⟨3, ![8, 64, 2048]⟩
abbrev S8x128x512 : Shape := ⟨3, ![8, 128, 512]⟩
abbrev S128x192 : Shape := ⟨2, ![128, 192]⟩
abbrev S128 : Shape := ⟨1, ![128]⟩
abbrev S128x128 : Shape := ⟨2, ![128, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x20 : Shape := ⟨3, ![8, 2048, 20]⟩
abbrev S8x2048x19 : Shape := ⟨3, ![8, 2048, 19]⟩

class Facts : Prop where
  bcast_S_S8x2048x2048 : S_.BroadcastsInDim S8x2048x2048 (![] : Fin 0 → Fin S8x2048x2048.rank)
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  transposes_S8x2048x2048_S8x2048x2048_0_2_1 : S8x2048x2048.Transposes [0, 2, 1] S8x2048x2048
  sliceFits_S8x2048x2048_S8x2048x20 : S8x2048x2048.Slices (fun _ => 0) S8x2048x20
  slices_S8x2048x20_S8x2048x19_0_0_0 : S8x2048x20.Slices ![0, 0, 0] S8x2048x19
  slices_S8x2048x20_S8x2048x19_0_0_1 : S8x2048x20.Slices ![0, 0, 1] S8x2048x19
  reducesTo_S8x2048x19_S8x2048_d2 : S8x2048x19.ReducesTo [2] S8x2048
  bcast_S_S8x2048 : S_.BroadcastsInDim S8x2048 (![] : Fin 0 → Fin S8x2048.rank)
  bcast_S_S8x512x3 : S_.BroadcastsInDim S8x512x3 (![] : Fin 0 → Fin S8x512x3.rank)
  bcast_S_S128 : S_.BroadcastsInDim S128 (![] : Fin 0 → Fin S128.rank)
  dot_S8x2048x3_S8x2048x3_S8x2048x2048_2_2_1_1_0_0_wf : DotDims.WF S8x2048x3 S8x2048x3 S8x2048x2048 [2] [2] [1] [1] [0] [0]

variable [Facts]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf
def fn_part1 {F : FTy → Type} [FloatOps F] (main_arg1 : FVec F S8x512x3 .f32) (main_arg6 : FVec F S128 .f32) (main_arg10 : FVec F S128 .f32) (main_v18 : FVec F S8x2048x19 .f32) : IVec S8x2048 1 × IVec S8x512x3 1 × IVec S128 1 × IVec S128 1 :=
  let main_cst_2 : FVec F S_ .f32 := constant S_ .f32 0x00000000#32
  let main_v19 : FVec F S8x2048 .f32 := (fun x v => Host.reduceAdd x v reducesTo_S8x2048x19_S8x2048_d2 h_S_) main_v18 main_cst_2
  let main_cst_3 : FVec F S_ .f32 := constant S_ .f32 0x41800000#32
  let main_v20 : FVec F S8x2048 .f32 := broadcastInDim S8x2048 ![] bcast_S_S8x2048 main_cst_3
  let main_v21 : IVec S8x2048 1 := cmpf .oge main_v19 main_v20
  let main_v22 : FVec F S8x512x3 .f32 := Host.absf main_arg1
  let main_cst_4 : FVec F S_ .f32 := constant S_ .f32 0x7F800000#32
  let main_v23 : FVec F S8x512x3 .f32 := broadcastInDim S8x512x3 ![] bcast_S_S8x512x3 main_cst_4
  let main_v24 : IVec S8x512x3 1 := cmpf .olt main_v22 main_v23
  let main_v25 : FVec F S128 .f32 := Host.absf main_arg6
  let main_cst_5 : FVec F S_ .f32 := constant S_ .f32 0x7F800000#32
  let main_v26 : FVec F S128 .f32 := broadcastInDim S128 ![] bcast_S_S128 main_cst_5
  let main_v27 : IVec S128 1 := cmpf .olt main_v25 main_v26
  let main_v28 : FVec F S128 .f32 := Host.absf main_arg10
  let main_cst_6 : FVec F S_ .f32 := constant S_ .f32 0x7F800000#32
  let main_v29 : FVec F S128 .f32 := broadcastInDim S128 ![] bcast_S_S128 main_cst_6
  let main_v30 : IVec S128 1 := cmpf .olt main_v28 main_v29
  (main_v21, main_v24, main_v27, main_v30)

def fn {F : FTy → Type} [FloatOps F] (main_arg0 : FVec F S8x2048x3 .f32) (main_arg1 : FVec F S8x512x3 .f32) (main_arg2 : FVec F S8x64x2048 .f32) (main_arg3 : FVec F S8x128x512 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S8x2048 1 × IVec S8x512x3 1 × IVec S128 1 × IVec S128 1 :=
  let main_v0 : FVec F S8x2048x2048 .f32 := (fun l r => Host.dotGeneral dot_S8x2048x3_S8x2048x3_S8x2048x2048_2_2_1_1_0_0 none l r) main_arg0 main_arg0
  let main_cst : FVec F S_ .f32 := constant S_ .f32 0xC0000000#32
  let main_v1 : FVec F S8x2048x2048 .f32 := broadcastInDim S8x2048x2048 ![] bcast_S_S8x2048x2048 main_cst
  let main_v2 : FVec F S8x2048x2048 .f32 := mulf main_v1 main_v0
  let main_v3 : FVec F S8x2048x3 .f32 := mulf main_arg0 main_arg0
  let main_cst_0 : FVec F S_ .f32 := constant S_ .f32 0x00000000#32
  let main_v4 : FVec F S8x2048 .f32 := (fun x v => Host.reduceAdd x v reducesTo_S8x2048x3_S8x2048_d2 h_S_) main_v3 main_cst_0
  let main_v5 : FVec F S8x2048x1 .f32 := broadcastInDim S8x2048x1 ![0, 1] bcast_S8x2048_S8x2048x1_0_1 main_v4
  let main_v6 : FVec F S8x2048x2048 .f32 := broadcastInDim S8x2048x2048 ![0, 1, 2] bcast_S8x2048x1_S8x2048x2048_0_1_2 main_v5
  let main_v7 : FVec F S8x2048x2048 .f32 := addf main_v2 main_v6
  let main_v8 : FVec F S8x2048x3 .f32 := mulf main_arg0 main_arg0
  let main_cst_1 : FVec F S_ .f32 := constant S_ .f32 0x00000000#32
  let main_v9 : FVec F S8x2048 .f32 := (fun x v => Host.reduceAdd x v reducesTo_S8x2048x3_S8x2048_d2 h_S_) main_v8 main_cst_1
  let main_v10 : FVec F S8x1x2048 .f32 := broadcastInDim S8x1x2048 ![0, 2] bcast_S8x2048_S8x1x2048_0_2 main_v9
  let main_v11 : FVec F S8x2048x2048 .f32 := broadcastInDim S8x2048x2048 ![0, 1, 2] bcast_S8x1x2048_S8x2048x2048_0_1_2 main_v10
  let main_v12 : FVec F S8x2048x2048 .f32 := addf main_v7 main_v11
  let main_v13 : FVec F S8x2048x2048 .f32 := (transpose S8x2048x2048 [0, 2, 1] · transposes_S8x2048x2048_S8x2048x2048_0_2_1) main_v12
  let main_v14 : FVec F S8x2048x2048 .f32 := Host.negf main_v13
  let main_values : FVec F S8x2048x20 .f32 := (fun x => (Host.topK S8x2048x20 2 (FloatOps.cmpfTotal .gt) x sliceFits_S8x2048x2048_S8x2048x20).1) main_v14
  let main_indices : IVec S8x2048x20 32 := (fun x => (Host.topK S8x2048x20 2 (FloatOps.cmpfTotal .gt) x sliceFits_S8x2048x2048_S8x2048x20).2) main_v14
  let main_v15 : FVec F S8x2048x19 .f32 := (extractStridedSlice S8x2048x19 ![0, 0, 0] · slices_S8x2048x20_S8x2048x19_0_0_0) main_values
  let main_v16 : FVec F S8x2048x19 .f32 := (extractStridedSlice S8x2048x19 ![0, 0, 1] · slices_S8x2048x20_S8x2048x19_0_0_1) main_values
  let main_v17 : IVec S8x2048x19 1 := cmpf .ogt main_v15 main_v16
  let main_v18 : FVec F S8x2048x19 .f32 := uitofp .f32 main_v17
  fn_part1 (F := F) main_arg1 main_arg6 main_arg10 main_v18
-- ==== Kernel.lean ====
abbrev S8x2048x3 : Shape := ⟨3, ![8, 2048, 3]⟩
abbrev S8x512x3 : Shape := ⟨3, ![8, 512, 3]⟩
abbrev S8x64x2048 : Shape := ⟨3, ![8, 64, 2048]⟩
abbrev S8x128x512 : Shape := ⟨3, ![8, 128, 512]⟩
abbrev S128x192 : Shape := ⟨2, ![128, 192]⟩
abbrev S128 : Shape := ⟨1, ![128]⟩
abbrev S128x128 : Shape := ⟨2, ![128, 128]⟩
abbrev S8x2048x64 : Shape := ⟨3, ![8, 2048, 64]⟩
abbrev S8x512x128 : Shape := ⟨3, ![8, 512, 128]⟩
abbrev S1x128 : Shape := ⟨2, ![1, 128]⟩
abbrev S8x2048x128 : Shape := ⟨3, ![8, 2048, 128]⟩
abbrev S8x8x1x128 : Shape := ⟨4, ![8, 8, 1, 128]⟩
abbrev S1x256x3 : Shape := ⟨3, ![1, 256, 3]⟩
abbrev S1x512x3 : Shape := ⟨3, ![1, 512, 3]⟩
abbrev S1x256x64 : Shape := ⟨3, ![1, 256, 64]⟩
abbrev S1x512x128 : Shape := ⟨3, ![1, 512, 128]⟩
abbrev S1x256x128 : Shape := ⟨3, ![1, 256, 128]⟩
abbrev S1x1x1x128 : Shape := ⟨4, ![1, 1, 1, 128]⟩
abbrev S256x3 : Shape := ⟨2, ![256, 3]⟩
abbrev S512x3 : Shape := ⟨2, ![512, 3]⟩
abbrev S256x512 : Shape := ⟨2, ![256, 512]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1x512 : Shape := ⟨2, ![1, 512]⟩
abbrev S512x128 : Shape := ⟨2, ![512, 128]⟩
abbrev S256x128 : Shape := ⟨2, ![256, 128]⟩
abbrev S256x64 : Shape := ⟨2, ![256, 64]⟩
abbrev S256x192 : Shape := ⟨2, ![256, 192]⟩
abbrev S_ : Shape := ⟨0, ![]⟩
abbrev S1x2048x3 : Shape := ⟨3, ![1, 2048, 3]⟩
abbrev S1x2048x128 : Shape := ⟨3, ![1, 2048, 128]⟩
abbrev S2048x128 : Shape := ⟨2, ![2048, 128]⟩
abbrev S2048x3 : Shape := ⟨2, ![2048, 3]⟩
abbrev S256x2048 : Shape := ⟨2, ![256, 2048]⟩
abbrev S2048 : Shape := ⟨1, ![2048]⟩
abbrev S2048x1 : Shape := ⟨2, ![2048, 1]⟩
abbrev S1x2048 : Shape := ⟨2, ![1, 2048]⟩
abbrev S8x128x2048 : Shape := ⟨3, ![8, 128, 2048]⟩
abbrev S1x128x256 : Shape := ⟨3, ![1, 128, 256]⟩
abbrev S128x256 : Shape := ⟨2, ![128, 256]⟩

abbrev nBuf : Space → Nat
  | .hbm => 65
  | .vmem => 44
  | .smem => 0
  | _ => 0

abbrev bufTy : (tb : Table) → Fin (tcTables nBuf tb) → BufTy
  | .hbm, ⟨0, _⟩ => ⟨S8x2048x3, .f32⟩
  | .hbm, ⟨1, _⟩ => ⟨S8x512x3, .f32⟩
  | .hbm, ⟨2, _⟩ => ⟨S8x64x2048, .f32⟩
  | .hbm, ⟨3, _⟩ => ⟨S8x128x512, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S8x2048x64, .f32⟩
  | .hbm, ⟨13, _⟩ => ⟨S8x512x128, .f32⟩
  | .hbm, ⟨14, _⟩ => ⟨S1x128, .f32⟩
  | .hbm, ⟨15, _⟩ => ⟨S8x2048x128, .f32⟩
  | .hbm, ⟨16, _⟩ => ⟨S8x8x1x128, .f32⟩
  | .hbm, ⟨17, _⟩ => ⟨S8x8x1x128, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S1x128, .f32⟩
  | .hbm, ⟨40, _⟩ => ⟨S8x2048x128, .f32⟩
  | .hbm, ⟨41, _⟩ => ⟨S8x8x1x128, .f32⟩
  | .hbm, ⟨42, _⟩ => ⟨S8x8x1x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S8x128x2048, .f32⟩
  | .local _ .vmem, ⟨0, _⟩ => ⟨S1x256x3, .f32⟩
  | .local _ .vmem, ⟨1, _⟩ => ⟨S1x256x3, .f32⟩
  | .local _ .vmem, ⟨2, _⟩ => ⟨S1x512x3, .f32⟩
  | .local _ .vmem, ⟨3, _⟩ => ⟨S1x512x3, .f32⟩
  | .local _ .vmem, ⟨4, _⟩ => ⟨S1x256x64, .f32⟩
  | .local _ .vmem, ⟨5, _⟩ => ⟨S1x256x64, .f32⟩
  | .local _ .vmem, ⟨6, _⟩ => ⟨S1x512x128, .f32⟩
  | .local _ .vmem, ⟨7, _⟩ => ⟨S1x512x128, .f32⟩
  | .local _ .vmem, ⟨8, _⟩ => ⟨S128x192, .f32⟩
  | .local _ .vmem, ⟨9, _⟩ => ⟨S1x128, .f32⟩
  | .local _ .vmem, ⟨10, _⟩ => ⟨S1x256x128, .f32⟩
  | .local _ .vmem, ⟨11, _⟩ => ⟨S1x256x128, .f32⟩
  | .local _ .vmem, ⟨12, _⟩ => ⟨S1x1x1x128, .f32⟩
  | .local _ .vmem, ⟨13, _⟩ => ⟨S1x1x1x128, .f32⟩
  | .local _ .vmem, ⟨14, _⟩ => ⟨S1x1x1x128, .f32⟩
  | .local _ .vmem, ⟨15, _⟩ => ⟨S1x1x1x128, .f32⟩
  | .local _ .vmem, ⟨16, _⟩ => ⟨S1x256x3, .f32⟩
  | .local _ .vmem, ⟨17, _⟩ => ⟨S1x256x3, .f32⟩
  | .local _ .vmem, ⟨18, _⟩ => ⟨S1x2048x3, .f32⟩
  | .local _ .vmem, ⟨19, _⟩ => ⟨S1x2048x3, .f32⟩
  | .local _ .vmem, ⟨20, _⟩ => ⟨S1x2048x128, .f32⟩
  | .local _ .vmem, ⟨21, _⟩ => ⟨S1x2048x128, .f32⟩
  | .local _ .vmem, ⟨22, _⟩ => ⟨S1x256x128, .f32⟩
  | .local _ .vmem, ⟨23, _⟩ => ⟨S1x256x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1x256x128, .f32⟩
  | .local _ .vmem, ⟨29, _⟩ => ⟨S1x256x128, .f32⟩
  | .local _ .vmem, ⟨30, _⟩ => ⟨S1x1x1x128, .f32⟩
  | .local _ .vmem, ⟨31, _⟩ => ⟨S1x1x1x128, .f32⟩
  | .local _ .vmem, ⟨32, _⟩ => ⟨S1x1x1x128, .f32⟩
  | .local _ .vmem, ⟨33, _⟩ => ⟨S1x1x1x128, .f32⟩
  | .local _ .vmem, ⟨34, _⟩ => ⟨S1x256x128, .f32⟩
  | .local _ .vmem, ⟨35, _⟩ => ⟨S1x256x128, .f32⟩
  | .local _ .vmem, ⟨36, _⟩ => ⟨S1x256x128, .f32⟩
  | .local _ .vmem, ⟨37, _⟩ => ⟨S1x256x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128x256, .f32⟩
  | .local _ .vmem, ⟨43, _⟩ => ⟨S1x128x256, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_cst_4 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem6_1 : DmaSem sig := 43

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x128x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S8x2048x3 : Shape := ⟨3, ![8, 2048, 3]⟩
abbrev S8x512x3 : Shape := ⟨3, ![8, 512, 3]⟩
abbrev S8x64x2048 : Shape := ⟨3, ![8, 64, 2048]⟩
abbrev S8x128x512 : Shape := ⟨3, ![8, 128, 512]⟩
abbrev S128x192 : Shape := ⟨2, ![128, 192]⟩
abbrev S128 : Shape := ⟨1, ![128]⟩
abbrev S128x128 : Shape := ⟨2, ![128, 128]⟩
abbrev S8 : Shape := ⟨1, ![8]⟩
abbrev S8x1x1 : Shape := ⟨3, ![8, 1, 1]⟩
abbrev S8x512x128 : Shape := ⟨3, ![8, 512, 128]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S8x512 : Shape := ⟨2, ![8, 512]⟩
abbrev S8x1x512 : Shape := ⟨3, ![8, 1, 512]⟩
abbrev S8x2048x3x1 : Shape := ⟨4, ![8, 2048, 3, 1]⟩
abbrev S8x2048x3x2 : Shape := ⟨4, ![8, 2048, 3, 2]⟩
abbrev S8x2048x3x128 : Shape := ⟨4, ![8, 2048, 3, 128]⟩
abbrev S8x2048x128 : Shape := ⟨3, ![8, 2048, 128]⟩
abbrev S8x2048x64 : Shape := ⟨3, ![8, 2048, 64]⟩
abbrev S8x2048x192 : Shape := ⟨3, ![8, 2048, 192]⟩
abbrev S8x192x2048 : Shape := ⟨3, ![8, 192, 2048]⟩
abbrev S8x128x2048 : Shape := ⟨3, ![8, 128, 2048]⟩
abbrev S1x128x1 : Shape := ⟨3, ![1, 128, 1]⟩
abbrev S8x2048x2048 : Shape := ⟨3, ![8, 2048, 2048]⟩
abbrev S8x1x2048 : Shape := ⟨3, ![8, 1, 2048]⟩
abbrev S8x2048x16 : Shape := ⟨3, ![8, 2048, 16]⟩
abbrev S8x2048x16x1 : Shape := ⟨4, ![8, 2048, 16, 1]⟩
abbrev S8x2048x16x2 : Shape := ⟨4, ![8, 2048, 16, 2]⟩
abbrev S8x2048x16x128 : Shape := ⟨4, ![8, 2048, 16, 128]⟩

abbrev nBuf : Space → Nat
  | .hbm => 220
  | .vmem => 0
  | .smem => 0
  | _ => 0

abbrev hbmTy0_0 (i : Nat) : BufTy := match i % 128 with
  | 0 => ⟨S8x2048x3, .f32⟩
  | 1 => ⟨S8x512x3, .f32⟩
  | 2 => ⟨S8x64x2048, .f32⟩
  | 3 => ⟨S8x128x512, .f32⟩
  | 4 => ⟨S128x192, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S8, .i32⟩
  | 13 => ⟨S8x1x1, .i32⟩
  | 14 => ⟨S8x512x128, .f32⟩
  | 15 => ⟨S8x2048x512, .f32⟩
  | 16 => ⟨S_, .f32⟩
  | 17 => ⟨S8x2048x512, .f32⟩
  | 18 => ⟨S8x2048x512, .f32⟩
  | 19 => ⟨S8x2048x3, .f32⟩
  | 20 => ⟨S_, .f32⟩
  | 21 => ⟨S8x2048, .f32⟩
  | 22 => ⟨S8x2048x1, .f32⟩
  | 23 => ⟨S8x2048x512, .f32⟩
  | 24 => ⟨S8x2048x512, .f32⟩
  | 25 => ⟨S8x512x3, .f32⟩
  | 26 => ⟨S_, .f32⟩
  | 27 => ⟨S8x512, .f32⟩
  | 28 => ⟨S8x1x512, .f32⟩
  | 29 => ⟨S8x2048x512, .f32⟩
  | 30 => ⟨S8x2048x512, .f32⟩
  | 31 => ⟨S8x2048x3, .f32⟩
  | 32 => ⟨S8x2048x3, .i32⟩
  | 33 => ⟨S_, .f32⟩
  | 34 => ⟨S8x2048x3, .f32⟩
  | 35 => ⟨S8x2048x3, .f32⟩
  | 36 => ⟨S_, .f32⟩
  | 37 => ⟨S8x2048x3, .f32⟩
  | 38 => ⟨S8x2048x3, .f32⟩
  | 39 => ⟨S_, .f32⟩
  | 40 => ⟨S8x2048, .f32⟩
  | 41 => ⟨S8x2048x1, .f32⟩
  | 42 => ⟨S8x2048x3, .f32⟩
  | 43 => ⟨S8x2048x3, .f32⟩
  | 44 => ⟨S_, .i32⟩
  | 45 => ⟨S8x1x1, .i32⟩
  | 46 => ⟨S8x1x1, .i1⟩
  | 47 => ⟨S_, .i32⟩
  | 48 => ⟨S8x1x1, .i32⟩
  | 49 => ⟨S8x1x1, .i32⟩
  | 50 => ⟨S8x1x1, .i32⟩
  | 51 => ⟨S_, .i32⟩
  | 52 => ⟨S8x2048x3, .i32⟩
  | 53 => ⟨S8x2048x3, .i1⟩
  | 54 => ⟨S_, .i32⟩
  | 55 => ⟨S8x2048x3, .i32⟩
  | 56 => ⟨S8x2048x3, .i32⟩
  | 57 => ⟨S8x2048x3, .i32⟩
  | 58 => ⟨S8x2048x3, .i32⟩
  | 59 => ⟨S8x2048x3x1, .i32⟩
  | 60 => ⟨S8x2048x3x1, .i32⟩
  | 61 => ⟨S8x2048x3x2, .i32⟩
  | 62 => ⟨S8x2048x3x128, .f32⟩
  | 63 => ⟨S8x2048x3x1, .f32⟩
  | 64 => ⟨S8x2048x3x128, .f32⟩
  | 65 => ⟨S8x2048x3x128, .f32⟩
  | 66 => ⟨S_, .f32⟩
  | 67 => ⟨S8x2048x128, .f32⟩
  | 68 => ⟨S8x2048x64, .f32⟩
  | 69 => ⟨S8x2048x192, .f32⟩
  | 70 => ⟨S8x192x2048, .f32⟩
  | 71 => ⟨S8x2048x128, .f32⟩
  | 72 => ⟨S8x128x2048, .f32⟩
  | 73 => ⟨S1x128x1, .f32⟩
  | 74 => ⟨S8x128x2048, .f32⟩
  | 75 => ⟨S8x128x2048, .f32⟩
  | 76 => ⟨S_, .f32⟩
  | 77 => ⟨S128, .f32⟩
  | 78 => ⟨S1x128x1, .f32⟩
  | 79 => ⟨S_, .f32⟩
  | 80 => ⟨S1x128x1, .f32⟩
  | 81 => ⟨S1x128x1, .f32⟩
  | 82 => ⟨S_, .i32⟩
  | 83 => ⟨S_, .f32⟩
  | 84 => ⟨S128, .f32⟩
  | 85 => ⟨S1x128x1, .f32⟩
  | 86 => ⟨S_, .f32⟩
  | 87 => ⟨S1x128x1, .f32⟩
  | 88 => ⟨S1x128x1, .f32⟩
  | 89 => ⟨S8x128x2048, .f32⟩
  | 90 => ⟨S8x128x2048, .f32⟩
  | 91 => ⟨S8x128x2048, .f32⟩
  | 92 => ⟨S_, .f32⟩
  | 93 => ⟨S_, .f32⟩
  | 94 => ⟨S_, .f32⟩
  | 95 => ⟨S_, .f32⟩
  | 96 => ⟨S128, .f32⟩
  | 97 => ⟨S1x128x1, .f32⟩
  | 98 => ⟨S1x128x1, .f32⟩
  | 99 => ⟨S1x128x1, .f32⟩
  | 100 => ⟨S_, .f32⟩
  | 101 => ⟨S_, .i1⟩
  | 102 => ⟨S_, .f32⟩
  | 103 => ⟨S_, .f32⟩
  | 104 => ⟨S1x128x1, .f32⟩
  | 105 => ⟨S1x128x1, .f32⟩
  | 106 => ⟨S8x128x2048, .f32⟩
  | 107 => ⟨S8x128x2048, .f32⟩
  | 108 => ⟨S_, .f32⟩
  | 109 => ⟨S1x128x1, .f32⟩
  | 110 => ⟨S1x128x1, .f32⟩
  | 111 => ⟨S1x128x1, .f32⟩
  | 112 => ⟨S8x128x2048, .f32⟩
  | 113 => ⟨S8x128x2048, .f32⟩
  | 114 => ⟨S1x128x1, .f32⟩
  | 115 => ⟨S8x128x2048, .f32⟩
  | 116 => ⟨S8x128x2048, .f32⟩
  | 117 => ⟨S1x128x1, .f32⟩
  | 118 => ⟨S8x128x2048, .f32⟩
  | 119 => ⟨S8x128x2048, .f32⟩
  | 120 => ⟨S_, .f32⟩
  | 121 => ⟨S8x128x2048, .f32⟩
  | 122 => ⟨S8x128x2048, .f32⟩
  | 123 => ⟨S8x2048x2048, .f32⟩
  | 124 => ⟨S_, .f32⟩
  | 125 => ⟨S8x2048x2048, .f32⟩
  | 126 => ⟨S8x2048x2048, .f32⟩
  | 127 => ⟨S8x2048x3, .f32⟩
  | _ => ⟨S8x2048x3, .f32⟩

abbrev hbmTy0_1 (i : Nat) : BufTy := match i % 128 with
  | 0 => ⟨S_, .f32⟩
  | 1 => ⟨S8x2048, .f32⟩
  | 2 => ⟨S8x2048x1, .f32⟩
  | 3 => ⟨S8x2048x2048, .f32⟩
  | 4 => ⟨S8x2048x2048, .f32⟩
  | 5 => ⟨S8x2048x3, .f32⟩
  | 6 => ⟨S_, .f32⟩
  | 7 => ⟨S8x2048, .f32⟩
  | 8 => ⟨S8x1x2048, .f32⟩
  | 9 => ⟨S8x2048x2048, .f32⟩
  | 10 => ⟨S8x2048x2048, .f32⟩
  | 11 => ⟨S8x2048x2048, .f32⟩
  | 12 => ⟨S8x2048x2048, .f32⟩
  | 13 => ⟨S8x2048x16, .f32⟩
  | 14 => ⟨S8x2048x16, .i32⟩
  | 15 => ⟨S8x2048x128, .f32⟩
  | 16 => ⟨S_, .i32⟩
  | 17 => ⟨S8x1x1, .i32⟩
  | 18 => ⟨S8x1x1, .i1⟩
  | 19 => ⟨S_, .i32⟩
  | 20 => ⟨S8x1x1, .i32⟩
  | 21 => ⟨S8x1x1, .i32⟩
  | 22 => ⟨S8x1x1, .i32⟩
  | 23 => ⟨S_, .i32⟩
  | 24 => ⟨S8x2048x16, .i32⟩
  | 25 => ⟨S8x2048x16, .i1⟩
  | 26 => ⟨S_, .i32⟩
  | 27 => ⟨S8x2048x16, .i32⟩
  | 28 => ⟨S8x2048x16, .i32⟩
  | 29 => ⟨S8x2048x16, .i32⟩
  | 30 => ⟨S8x2048x16, .i32⟩
  | 31 => ⟨S8x2048x16x1, .i32⟩
  | 32 => ⟨S8x2048x16x1, .i32⟩
  | 33 => ⟨S8x2048x16x2, .i32⟩
  | 34 => ⟨S8x2048x16x128, .f32⟩
  | 35 => ⟨S_, .f32⟩
  | 36 => ⟨S8x2048x128, .f32⟩
  | 37 => ⟨S8x128x2048, .f32⟩
  | 38 => ⟨S8x128x2048, .f32⟩
  | 39 => ⟨S8x2048x128, .f32⟩
  | 40 => ⟨S8x128x2048, .f32⟩
  | 41 => ⟨S1x128x1, .f32⟩
  | 42 => ⟨S8x128x2048, .f32⟩
  | 43 => ⟨S8x128x2048, .f32⟩
  | 44 => ⟨S_, .f32⟩
  | 45 => ⟨S8x128x2048, .f32⟩
  | 46 => ⟨S8x128x2048, .f32⟩
  | 47 => ⟨S_, .f32⟩
  | 48 => ⟨S128, .f32⟩
  | 49 => ⟨S1x128x1, .f32⟩
  | 50 => ⟨S_, .f32⟩
  | 51 => ⟨S1x128x1, .f32⟩
  | 52 => ⟨S1x128x1, .f32⟩
  | 53 => ⟨S_, .i32⟩
  | 54 => ⟨S_, .f32⟩
  | 55 => ⟨S128, .f32⟩
  | 56 => ⟨S1x128x1, .f32⟩
  | 57 => ⟨S_, .f32⟩
  | 58 => ⟨S1x128x1, .f32⟩
  | 59 => ⟨S1x128x1, .f32⟩
  | 60 => ⟨S8x128x2048, .f32⟩
  | 61 => ⟨S8x128x2048, .f32⟩
  | 62 => ⟨S8x128x2048, .f32⟩
  | 63 => ⟨S_, .f32⟩
  | 64 => ⟨S_, .f32⟩
  | 65 => ⟨S_, .f32⟩
  | 66 => ⟨S_, .f32⟩
  | 67 => ⟨S128, .f32⟩
  | 68 => ⟨S1x128x1, .f32⟩
  | 69 => ⟨S1x128x1, .f32⟩
  | 70 => ⟨S1x128x1, .f32⟩
  | 71 => ⟨S_, .f32⟩
  | 72 => ⟨S_, .i1⟩
  | 73 => ⟨S_, .f32⟩
  | 74 => ⟨S_, .f32⟩
  | 75 => ⟨S1x128x1, .f32⟩
  | 76 => ⟨S1x128x1, .f32⟩
  | 77 => ⟨S8x128x2048, .f32⟩
  | 78 => ⟨S8x128x2048, .f32⟩
  | 79 => ⟨S_, .f32⟩
  | 80 => ⟨S1x128x1, .f32⟩
  | 81 => ⟨S1x128x1, .f32⟩
  | 82 => ⟨S1x128x1, .f32⟩
  | 83 => ⟨S8x128x2048, .f32⟩
  | 84 => ⟨S8x128x2048, .f32⟩
  | 85 => ⟨S1x128x1, .f32⟩
  | 86 => ⟨S8x128x2048, .f32⟩
  | 87 => ⟨S8x128x2048, .f32⟩
  | 88 => ⟨S1x128x1, .f32⟩
  | 89 => ⟨S8x128x2048, .f32⟩
  | 90 => ⟨S8x128x2048, .f32⟩
  | 91 => ⟨S8x128x2048, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_cst_1 : Ref sig .tc := ⟨.hbm, 93, rfl⟩
abbrev main_call0_v8 : Ref sig .tc := ⟨.hbm, 94, rfl⟩
abbrev main_call0_cst_2 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_v12 : Ref sig .tc := ⟨.hbm, 99, rfl⟩
abbrev main_call0_cst_3 : Ref sig .tc := ⟨.hbm, 100, rfl⟩
abbrev main_call0_v13 : Ref sig .tc := ⟨.hbm, 101, rfl⟩
abbrev main_call0_cst_4 : Ref sig .tc := ⟨.hbm, 102, rfl⟩
abbrev main_call0_call0_v0 : Ref sig .tc := ⟨.hbm, 103, rfl⟩
abbrev main_call0_call0_v1 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_12 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call1_cst : Ref sig .tc := ⟨.hbm, 120, rfl⟩
abbrev main_call1_v0 : Ref sig .tc := ⟨.hbm, 121, rfl⟩
abbrev main_v69 : Ref sig .tc := ⟨.hbm, 122, rfl⟩
abbrev main_v70 : Ref sig .tc := ⟨.hbm, 123, rfl⟩
abbrev main_cst_13 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_14 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_15 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_values_16 : Ref sig .tc := ⟨.hbm, 141, rfl⟩
abbrev main_indices_17 : Ref sig .tc := ⟨.hbm, 142, rfl⟩
abbrev main_v85 : Ref sig .tc := ⟨.hbm, 143, rfl⟩
abbrev main_c_18 : Ref sig .tc := ⟨.hbm, 144, rfl⟩
abbrev main_v86 : Ref sig .tc := ⟨.hbm, 145, rfl⟩
abbrev main_v87 : Ref sig .tc := ⟨.hbm, 146, rfl⟩
abbrev main_c_19 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_c_20 : Ref sig .tc := ⟨.hbm, 151, rfl⟩
abbrev main_v91 : Ref sig .tc := ⟨.hbm, 152, rfl⟩
abbrev main_v92 : Ref sig .tc := ⟨.hbm, 153, rfl⟩
abbrev main_c_21 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_22 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_call2_cst : Ref sig .tc := ⟨.hbm, 172, rfl⟩
abbrev main_call2_v0 : Ref sig .tc := ⟨.hbm, 173, rfl⟩
abbrev main_v109 : Ref sig .tc := ⟨.hbm, 174, rfl⟩
abbrev main_cst_23 : Ref sig .tc := ⟨.hbm, 175, rfl⟩
abbrev main_v110 : Ref sig .tc := ⟨.hbm, 176, rfl⟩
abbrev main_v111 : Ref sig .tc := ⟨.hbm, 177, rfl⟩
abbrev main_cst_24 : Ref sig .tc := ⟨.hbm, 178, rfl⟩
abbrev main_v112 : Ref sig .tc := ⟨.hbm, 179, rfl⟩
abbrev main_v113 : Ref sig .tc := ⟨.hbm, 180, rfl⟩
abbrev main_c_25 : Ref sig .tc := ⟨.hbm, 181, rfl⟩
abbrev main_call3_cst : Ref sig .tc := ⟨.hbm, 182, rfl⟩
abbrev main_call3_v0 : Ref sig .tc := ⟨.hbm, 183, rfl⟩
abbrev main_call3_v1 : Ref sig .tc := ⟨.hbm, 184, rfl⟩
abbrev main_call3_cst_0 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_v5 : Ref sig .tc := ⟨.hbm, 189, rfl⟩
abbrev main_call3_v6 : Ref sig .tc := ⟨.hbm, 190, rfl⟩
abbrev main_call3_v7 : Ref sig .tc := ⟨.hbm, 191, rfl⟩
abbrev main_call3_cst_1 : Ref sig .tc := ⟨.hbm, 192, rfl⟩
abbrev main_call3_v8 : Ref sig .tc := ⟨.hbm, 193, rfl⟩
abbrev main_call3_cst_2 : Ref sig .tc := ⟨.hbm, 194, rfl⟩
abbrev main_call3_v9 : Ref sig .tc := ⟨.hbm, 195, rfl⟩
abbrev main_call3_v10 : Ref sig .tc := ⟨.hbm, 196, rfl⟩
abbrev main_call3_v11 : Ref sig .tc := ⟨.hbm, 197, rfl⟩
abbrev main_call3_v12 : Ref sig .tc := ⟨.hbm, 198, rfl⟩
abbrev main_call3_cst_3 : Ref sig .tc := ⟨.hbm, 199, rfl⟩
abbrev main_call3_v13 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_cst_26 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩

abbrev nD : Nat := 1
abbrev τ : Topo := Topo.v7x

variable {F : FTy → Type} [FloatOps F]
-- ==== Proof.Sums.lean ====
/-
  Two sums over several axes at once: the host's sum of an array of per-tile sums, which is the sum over all clouds and
  points, and the host's sum of an array over its first and last axis.
-/
module

public import Idealize.ShloMosaic.Lib.Pointwise
public import Idealize.ShloMosaic.Lib.Pipeline.ValueKit

@[expose] public section

noncomputable section

namespace Cert.Proof

open Idealize.ShloMosaic

/-- A host sum over the axes 0, 1, 2 of an array of extents a, b, 1, n: the sum over the first two. -/
theorem reduce_012 {a b n : Nat} (x : FVec Ideal ⟨4, ![a, b, 1, n]⟩ .f32) (v : FVec Ideal ⟨0, ![]⟩ .f32)
    (h : (⟨4, ![a, b, 1, n]⟩ : Shape).ReducesTo [0, 1, 2] ⟨1, ![n]⟩) (hu : 0 < (⟨0, ![]⟩ : Shape).numel) (j : Fin n) :
    Host.reduceAdd x v h hu (ix1 j)
      = (v (Shape.Idx.first hu) : EReal) + ∑ p : Fin a × Fin b, (x (ix4 p.1 p.2 0 j) : EReal) := by
  refine congrArg (fun z : EReal => (v (Shape.Idx.first hu) : EReal) + z) ?_
  refine Finset.sum_filter_eq_sum_of_fiber _ (fun p : Fin a × Fin b => ix4 p.1 p.2 (0 : Fin 1) j)
    (fun _ _ e => Prod.ext (congrFun e 0) (congrFun e 1)) (fun i => ?_) x
  constructor
  · intro e
    refine ⟨(i 0, i 1), ?_⟩
    funext q; apply Fin.ext
    match q with
    | ⟨0, _⟩ => rfl
    | ⟨1, _⟩ => rfl
    | ⟨2, _⟩ => exact (Nat.lt_one_iff.mp (i 2).isLt).symm
    | ⟨3, _⟩ => exact (congrArg Fin.val (congrFun e 0)).symm
  · rintro ⟨p, rfl⟩
    funext q
    match q with
    | ⟨0, _⟩ => rfl

/-- A host sum over the axes 0 and 2 of an array of rank three. -/
theorem reduce_02 {a b n : Nat} (x : FVec Ideal ⟨3, ![a, n, b]⟩ .f32) (v : FVec Ideal ⟨0, ![]⟩ .f32)
    (h : (⟨3, ![a, n, b]⟩ : Shape).ReducesTo [0, 2] ⟨1, ![n]⟩) (hu : 0 < (⟨0, ![]⟩ : Shape).numel) (j : Fin n) :
    Host.reduceAdd x v h hu (ix1 j)
      = (v (Shape.Idx.first hu) : EReal) + ∑ p : Fin a × Fin b, (x (ix3 p.1 j p.2) : EReal) := by
  refine congrArg (fun z : EReal => (v (Shape.Idx.first hu) : EReal) + z) ?_
  refine Finset.sum_filter_eq_sum_of_fiber _ (fun p : Fin a × Fin b => ix3 p.1 j p.2)
    (fun _ _ e => Prod.ext (congrFun e 0) (congrFun e 2)) (fun i => ?_) x
  constructor
  · intro e
    refine ⟨(i 0, i 2), ?_⟩
    funext q; apply Fin.ext
    match q with
    | ⟨0, _⟩ => rfl
    | ⟨1, _⟩ => exact (congrArg Fin.val (congrFun e 0)).symm
    | ⟨2, _⟩ => rfl
  · rintro ⟨p, rfl⟩
    funext q
    match q with
    | ⟨0, _⟩ => rfl

/-- Summing tile by tile is summing over all points. -/
theorem sum_tiles (f : Fin 8 → Fin 2048 → EReal) :
    ∑ p : Fin 8 × Fin 8, ∑ r : Fin 256, f p.1 ⟨256 * p.2.val + r.val, by omega⟩ = ∑ q : Fin 8 × Fin 2048, f q.1 q.2 := by
  rw [Fintype.sum_prod_type, Fintype.sum_prod_type]
  refine Finset.sum_congr rfl fun b _ => ?_
  rw [← Fintype.sum_prod_type (f := fun x : Fin 8 × Fin 256 => f b ⟨256 * x.1.val + x.2.val, by omega⟩)]
  refine Fintype.sum_equiv (finProdFinEquiv (m := 8) (n := 256)) _ _ fun x => ?_
  exact congrArg (f b) (Fin.ext (by simp [finProdFinEquiv]; omega))

end Cert.Proof
-- ==== Proof.Rank.lean ====
/-
  The order `jax.lax.top_k` puts a finite row in: greater values first, equal values by their index. `before` is that
  order, `rank` an index's place in it, `ord` the index at a place. Picks.lean reads the operation itself by
  `ord`. Nothing here depends on the kernel.
-/
module

public import Idealize.ShloMosaic.Lib.StableHlo
public import Idealize.ShloMosaic.Lib.SortFacts
public import Idealize.ShloMosaic.PureOps
public import Idealize.ShloMosaic.PureOps.Ideal
public import Idealize.ShloMosaic.PureOps.Ideal.Laws

@[expose] public section

noncomputable section

namespace Cert.Proof

open Idealize.ShloMosaic

variable {n : ℕ}

/-- `k` comes before `i` in the row `f`: its value is greater, or the values are equal and its index is lower. -/
def before (f : Fin n → EReal) (k i : Fin n) : Prop := f i < f k ∨ (f k = f i ∧ k < i)

/-- No index comes before itself. -/
theorem before_irrefl (f : Fin n → EReal) (i : Fin n) : ¬ before f i i := by
  rintro (h | ⟨_, h⟩)
  · exact lt_irrefl _ h
  · exact lt_irrefl _ h

/-- The order is transitive. -/
theorem before_trans {f : Fin n → EReal} {a b c : Fin n} (hab : before f a b) (hbc : before f b c) : before f a c := by
  rcases hab with h | ⟨e, h⟩ <;> rcases hbc with h' | ⟨e', h'⟩
  · exact Or.inl (h'.trans h)
  · exact Or.inl (e' ▸ h)
  · exact Or.inl (e ▸ h')
  · exact Or.inr ⟨e.trans e', h.trans h'⟩

/-- Of two different indices one comes before the other. -/
theorem before_total (f : Fin n → EReal) {a b : Fin n} (h : a ≠ b) : before f a b ∨ before f b a := by
  rcases lt_trichotomy (f a) (f b) with hf | hf | hf
  · exact Or.inr (Or.inl hf)
  · rcases lt_or_gt_of_ne h with hl | hl
    · exact Or.inl (Or.inr ⟨hf, hl⟩)
    · exact Or.inr (Or.inr ⟨hf.symm, hl⟩)
  · exact Or.inl (Or.inl hf)

/-- An index's place in the order: how many indices come before it. -/
def rank (f : Fin n → EReal) (i : Fin n) : ℕ := by
  classical exact (Finset.univ.filter fun k => before f k i).card

/-- The comparison a stable sort of the row, greatest first, is run with. -/
def gtb (f : Fin n → EReal) (a b : Fin n) : Bool := by
  classical exact decide (f b < f a)

/-- The index at a place of the order: where the stable sort takes its element from. -/
def ord (f : Fin n → EReal) (j : Fin n) : Fin n := sortedFrom (gtb f) j

/-- Inserting an index lower than all of an ordered list leaves the list ordered, equal values by their index. -/
theorem pairwise_insert (f : Fin n → EReal) (a : Fin n) (l : List (Fin n)) (hlt : ∀ b ∈ l, a < b)
    (hl : l.Pairwise (before f)) : (insertBefore (gtb f) a l).Pairwise (before f) := by
  induction l with
  | nil => exact List.pairwise_singleton _ _
  | cons b l ih =>
    rw [List.pairwise_cons] at hl
    unfold insertBefore
    split
    · rename_i h
      have hba : f a < f b := by simpa [gtb] using h
      refine List.pairwise_cons.mpr ⟨fun c hc => ?_, ih (fun c hc => hlt c (List.mem_cons_of_mem _ hc)) hl.2⟩
      rcases List.mem_cons.mp ((perm_insertBefore (gtb f) a l).mem_iff.mp hc) with rfl | hc'
      · exact Or.inl hba
      · exact hl.1 c hc'
    · rename_i h
      have hba : ¬ f a < f b := by simpa [gtb] using h
      have hab : before f a b := by
        rcases lt_or_eq_of_le (not_lt.mp hba) with h' | h'
        · exact Or.inl h'
        · exact Or.inr ⟨h'.symm, hlt b List.mem_cons_self⟩
      refine List.pairwise_cons.mpr ⟨fun c hc => ?_, List.pairwise_cons.mpr hl⟩
      rcases List.mem_cons.mp hc with rfl | hc'
      · exact hab
      · exact before_trans hab (hl.1 c hc')

/-- The stable sort of an increasing list of indices is ordered, equal values by their index. -/
theorem pairwise_sort (f : Fin n → EReal) (l : List (Fin n)) (hl : l.Pairwise (· < ·)) :
    (stableSort (gtb f) l).Pairwise (before f) := by
  induction l with
  | nil => exact List.Pairwise.nil
  | cons a l ih =>
    rw [List.pairwise_cons] at hl
    unfold stableSort
    exact pairwise_insert f a _ (fun b hb => hl.1 b ((perm_stableSort (gtb f) l).mem_iff.mp hb)) (ih hl.2)

/-- A lower place's index comes before a higher place's. -/
theorem before_ord (f : Fin n → EReal) {i j : Fin n} (hij : i < j) : before f (ord f i) (ord f j) := by
  have hp : ∀ a b : Fin (sortPositions n (gtb f)).length, a < b →
      before f ((sortPositions n (gtb f)).get a) ((sortPositions n (gtb f)).get b) :=
    List.pairwise_iff_get.mp (pairwise_sort f (List.finRange n) (List.pairwise_lt_finRange n))
  unfold ord sortedFrom
  exact hp _ _ (by simp only [Fin.lt_def, Fin.val_cast]; exact hij)

/-- Every index is at some place. -/
theorem ord_surjective (f : Fin n → EReal) : Function.Surjective (ord f) := sortedFrom_surjective (gtb f)

/-- Different places hold different indices. -/
theorem ord_injective (f : Fin n → EReal) : Function.Injective (ord f) := sortedFrom_injective (gtb f)

/-- One place's index comes before another's exactly when the place is lower. -/
theorem before_ord_iff (f : Fin n → EReal) (i j : Fin n) : before f (ord f i) (ord f j) ↔ i < j := by
  refine ⟨fun h => ?_, before_ord f⟩
  rcases lt_trichotomy i j with hij | rfl | hij
  · exact hij
  · exact absurd h (before_irrefl f _)
  · exact absurd (before_trans h (before_ord f hij)) (before_irrefl f _)

/-- The index at place `j` has rank `j`. -/
theorem rank_ord (f : Fin n → EReal) (j : Fin n) : rank f (ord f j) = j.val := by
  classical
  unfold rank
  have : (Finset.univ.filter fun k => before f k (ord f j)) = (Finset.univ.filter fun i : Fin n => i < j).image (ord f) := by
    ext k
    simp only [Finset.mem_filter, Finset.mem_univ, true_and, Finset.mem_image]
    constructor
    · intro h
      obtain ⟨i, rfl⟩ := ord_surjective f k
      exact ⟨i, (before_ord_iff f i j).mp h, rfl⟩
    · rintro ⟨i, hi, rfl⟩
      exact before_ord f hi
  rw [this, Finset.card_image_of_injective _ (ord_injective f)]
  rw [show (Finset.univ.filter fun i : Fin n => i < j) = Finset.Iio j from by ext i; simp, Fin.card_Iio]

/-- Every rank is below the row's length. -/
theorem rank_lt (f : Fin n → EReal) (i : Fin n) : rank f i < n := by
  obtain ⟨j, rfl⟩ := ord_surjective f i
  rw [rank_ord]; exact j.isLt

/-- The index at the place of `i`'s rank is `i`. -/
theorem ord_rank (f : Fin n → EReal) (i : Fin n) : ord f ⟨rank f i, rank_lt f i⟩ = i := by
  obtain ⟨j, rfl⟩ := ord_surjective f i
  congr 1
  exact Fin.ext (rank_ord f j)

/-- Indices of one rank are one index. -/
theorem rank_injective (f : Fin n → EReal) {i k : Fin n} (h : rank f i = rank f k) : i = k := by
  rw [← ord_rank f i, ← ord_rank f k]; congr 1; exact Fin.ext h

/-- An index comes before another exactly when its rank is lower. -/
theorem before_iff_rank (f : Fin n → EReal) (i k : Fin n) : before f i k ↔ rank f i < rank f k := by
  obtain ⟨a, rfl⟩ := ord_surjective f i
  obtain ⟨b, rfl⟩ := ord_surjective f k
  rw [before_ord_iff, rank_ord, rank_ord]; exact Iff.rfl

/-- A lower rank's value is at least a higher rank's. -/
theorem le_of_rank_lt (f : Fin n → EReal) {i k : Fin n} (h : rank f i < rank f k) : f k ≤ f i := by
  rcases (before_iff_rank f i k).mpr h with h' | h'
  · exact h'.le
  · exact h'.1.ge

/-- The places' values never rise. -/
theorem ord_antitone (f : Fin n → EReal) {i j : Fin n} (h : i ≤ j) : f (ord f j) ≤ f (ord f i) := by
  rcases lt_or_eq_of_le h with h | rfl
  · exact le_of_rank_lt f (by rw [rank_ord, rank_ord]; exact h)
  · exact le_rfl

/-- A sum over the first `m` places is the sum over the indices whose rank is below `m`. -/
theorem sum_ord (f : Fin n → EReal) {m : ℕ} (hm : m ≤ n) (g : Fin n → EReal) :
    ∑ j : Fin m, g (ord f (j.castLE hm)) = ∑ i : Fin n, if rank f i < m then g i else 0 := by
  classical
  rw [← Finset.sum_filter]
  refine Finset.sum_bij (fun j _ => ord f (j.castLE hm)) (fun j _ => ?_) (fun a _ b _ h => ?_) (fun i hi => ?_)
    (fun _ _ => rfl)
  · simp [rank_ord]
  · exact Fin.castLE_injective hm (ord_injective f h)
  · have hi' : rank f i < m := by simpa using hi
    exact ⟨⟨rank f i, hi'⟩, Finset.mem_univ _, ord_rank f i⟩

/-- A sort's permutation depends on its comparison alone. -/
theorem sortedFrom_gt (f : Fin n → EReal) (R : Fin n → Fin n → Bool) (h : ∀ a b, R a b = gtb f a b) (j : Fin n) :
    sortedFrom R j = ord f j := by
  rw [show R = gtb f from funext fun a => funext fun b => h a b]; rfl

end Cert.Proof

end
-- ==== Proof.Fold.lean ====
/-
  A row's greatest and least entry, and its greatest and least word, as the folds a lane reduction leaves: each is at
  least (at most) every entry and is one of them.
-/
module

public import Idealize.ShloMosaic.Lib.StableHlo
public import Idealize.ShloMosaic.PureOps
public import Idealize.ShloMosaic.PureOps.Ideal
public import Idealize.ShloMosaic.PureOps.Ideal.Laws

@[expose] public section

noncomputable section

namespace Cert.Proof

open Idealize.ShloMosaic

variable {n : ℕ}

/-- The greatest entry of a row. -/
def rowMax (f : Fin n → EReal) : EReal := Finset.univ.fold max ⊥ f

/-- The least entry of a row. -/
def rowMin (f : Fin n → EReal) : EReal := Finset.univ.fold min ⊤ f

/-- Every entry is at most the row's greatest. -/
theorem le_rowMax (f : Fin n → EReal) (i : Fin n) : f i ≤ rowMax f :=
  Finset.le_fold_max _ |>.mpr (Or.inr ⟨i, Finset.mem_univ _, le_rfl⟩)

/-- The row's greatest entry is at most any bound of all its entries. -/
theorem rowMax_le {f : Fin n → EReal} {b : EReal} (h : ∀ i, f i ≤ b) : rowMax f ≤ b :=
  Finset.fold_max_le _ |>.mpr ⟨bot_le, fun i _ => h i⟩

/-- The row's least entry is at most every entry. -/
theorem rowMin_le (f : Fin n → EReal) (i : Fin n) : rowMin f ≤ f i :=
  Finset.fold_min_le _ |>.mpr (Or.inr ⟨i, Finset.mem_univ _, le_rfl⟩)

/-- A lower bound of all entries is at most the row's least. -/
theorem le_rowMin {f : Fin n → EReal} {b : EReal} (h : ∀ i, b ≤ f i) : b ≤ rowMin f :=
  Finset.le_fold_min _ |>.mpr ⟨le_top, fun i _ => h i⟩

/-- An entry that bounds all others is the row's greatest. -/
theorem rowMax_eq {f : Fin n → EReal} (i : Fin n) (h : ∀ k, f k ≤ f i) : rowMax f = f i :=
  le_antisymm (rowMax_le h) (le_rowMax f i)

/-- An entry that is at most all others is the row's least. -/
theorem rowMin_eq {f : Fin n → EReal} (i : Fin n) (h : ∀ k, f i ≤ f k) : rowMin f = f i :=
  le_antisymm (rowMin_le f i) (le_rowMin h)

/-- The word of an index. -/
abbrev word (i : Fin n) : BitVec 32 := BitVec.ofNat 32 i.val

/-- An index's word, read as a signed integer, is the index. -/
theorem word_toInt (hn : n < 2 ^ 31) (i : Fin n) : (word i).toInt = (i.val : ℤ) := by
  have := i.isLt
  rw [BitVec.toInt_ofNat']
  norm_num at hn ⊢
  rw [Int.bmod_eq_of_le] <;> omega

/-- Different indices have different words. -/
theorem word_injective (hn : n < 2 ^ 31) {i k : Fin n} (h : word i = word k) : i = k := by
  have := congrArg BitVec.toInt h
  rw [word_toInt hn, word_toInt hn] at this
  exact Fin.ext (by exact_mod_cast this)

/-- The signed maximum, as integers. -/
theorem maxsi_toInt (a b : BitVec 32) : (IntOp.maxsi a b).toInt = max a.toInt b.toInt := by
  unfold IntOp.maxsi
  split
  · rename_i h; rw [BitVec.slt_iff_toInt_lt] at h; exact (max_eq_left h.le).symm
  · rename_i h; rw [BitVec.slt_iff_toInt_lt, not_lt] at h; exact (max_eq_right h).symm

/-- The signed minimum, as integers. -/
theorem minsi_toInt (a b : BitVec 32) : (IntOp.minsi a b).toInt = min a.toInt b.toInt := by
  unfold IntOp.minsi
  split
  · rename_i h; rw [BitVec.slt_iff_toInt_lt] at h; exact (min_eq_left h.le).symm
  · rename_i h; rw [BitVec.slt_iff_toInt_lt, not_lt] at h; exact (min_eq_right h).symm

/-- A fold of the signed maximum, as integers. -/
theorem fold_maxsi_toInt (init : BitVec 32) (g : Fin n → BitVec 32) (s : Finset (Fin n)) :
    (s.fold IntOp.maxsi init g).toInt = s.fold max init.toInt fun i => (g i).toInt := by
  refine Finset.induction_on s rfl fun a s ha ih => ?_
  rw [Finset.fold_insert ha, Finset.fold_insert ha, maxsi_toInt, ih]

/-- A fold of the signed minimum, as integers. -/
theorem fold_minsi_toInt (init : BitVec 32) (g : Fin n → BitVec 32) (s : Finset (Fin n)) :
    (s.fold IntOp.minsi init g).toInt = s.fold min init.toInt fun i => (g i).toInt := by
  refine Finset.induction_on s rfl fun a s ha ih => ?_
  rw [Finset.fold_insert ha, Finset.fold_insert ha, minsi_toInt, ih]

/-- A word that bounds every word of the row, and the start, is the fold of the signed maximum when it is one of them. -/
theorem fold_maxsi_eq (init : BitVec 32) (g : Fin n → BitVec 32) (i : Fin n) (hi : init.toInt ≤ (g i).toInt)
    (h : ∀ k, (g k).toInt ≤ (g i).toInt) : Finset.univ.fold IntOp.maxsi init g = g i := by
  apply BitVec.eq_of_toInt_eq
  rw [fold_maxsi_toInt]
  exact le_antisymm (Finset.fold_max_le _ |>.mpr ⟨hi, fun k _ => h k⟩)
    (Finset.le_fold_max _ |>.mpr (Or.inr ⟨i, Finset.mem_univ _, le_rfl⟩))

/-- A word at most every word of the row, and the start, is the fold of the signed minimum when it is one of them. -/
theorem fold_minsi_eq (init : BitVec 32) (g : Fin n → BitVec 32) (i : Fin n) (hi : (g i).toInt ≤ init.toInt)
    (h : ∀ k, (g i).toInt ≤ (g k).toInt) : Finset.univ.fold IntOp.minsi init g = g i := by
  apply BitVec.eq_of_toInt_eq
  rw [fold_minsi_toInt]
  exact le_antisymm (Finset.fold_min_le _ |>.mpr (Or.inr ⟨i, Finset.mem_univ _, le_rfl⟩))
    (Finset.le_fold_min _ |>.mpr ⟨hi, fun k _ => h k⟩)

/-- Two words of indices are equal exactly when the indices are. -/
theorem cmpi_word {n : ℕ} (hn : n < 2 ^ 31) (i k : Fin n) :
    IntOp.cmpi .eq (word i) (word k) = if i = k then 1#1 else 0#1 := by
  unfold IntOp.cmpi
  by_cases e : i = k
  · rw [if_pos e, e]; simp
  · have : word i ≠ word k := fun q => e (word_injective hn q)
    rw [if_neg e, beq_eq_false_iff_ne.mpr this]; rfl

end Cert.Proof

end
-- ==== Proof.Least.lean ====
/-
  The kernel's mask of a row's sixteen least entries, on one row of finite numbers. Sixteen rounds put +∞ in place of
  every entry equal to the least; the mask is what became +∞, all the entries up to the sixteenth value that occurs.
  Of the mask's indices the last in the order is dropped while more than sixteen are there, three times at most. With at
  most three repeats among the first twenty entries the result is the first sixteen indices of the order.

  The order is `before` on the negated row: lesser entries first, equal ones by their index.
-/
module

public import proofs.«01_k».proof.Proof.Rank
public import proofs.«01_k».proof.Proof.Fold

@[expose] public section

noncomputable section

namespace Cert.Proof

open Idealize.ShloMosaic

variable {n : ℕ}

/-- One round: +∞ in place of every entry equal to the row's least. -/
def clear (d : Fin n → EReal) (i : Fin n) : EReal := if d i = rowMin d then ⊤ else d i

/-- The row with +∞ in place of the entries of a set of indices. -/
def masked (d : Fin n → EReal) (M : Finset (Fin n)) (i : Fin n) : EReal := if i ∈ M then ⊤ else d i

/-- The row whose `before` is the order of the least entries. -/
abbrev neg (d : Fin n → EReal) (i : Fin n) : EReal := -(d i)

/-- What `r` rounds leave cleared: a set with every entry no greater than one of its own, of at most `r` different
    values, and of as many unless it is everything. -/
structure Cleared (d : Fin n → EReal) (r : ℕ) (M : Finset (Fin n)) : Prop where
  closed : ∀ i ∈ M, ∀ k, d k ≤ d i → k ∈ M
  few : (M.image d).card ≤ r
  many : M = Finset.univ ∨ r ≤ (M.image d).card

/-- Nothing is cleared before the first round. -/
theorem cleared_zero (d : Fin n → EReal) : Cleared d 0 ∅ where
  closed i hi := absurd hi (Finset.notMem_empty i)
  few := by simp
  many := Or.inr (Nat.zero_le _)

/-- One more round clears one more value, if any is left. -/
theorem cleared_step (d : Fin n → EReal) (hd : ∀ i, d i ≠ ⊤) (r : ℕ) (M : Finset (Fin n)) (h : Cleared d r M) :
    ∃ M', clear (masked d M) = masked d M' ∧ Cleared d (r + 1) M' := by
  classical
  by_cases hM : M = Finset.univ
  · subst hM
    refine ⟨Finset.univ, ?_, ⟨h.closed, h.few.trans (Nat.le_succ r), Or.inl rfl⟩⟩
    funext i
    simp [clear, masked]
  · obtain ⟨a, ha, hmin⟩ := Finset.exists_min_image Mᶜ d (by
      rw [Finset.nonempty_iff_ne_empty]; exact fun e => hM (by simpa using e))
    have haM : a ∉ M := Finset.mem_compl.mp ha
    have hlt : ∀ k ∈ M, d k < d a := fun k hk => lt_of_not_ge fun hle => haM (h.closed k hk a hle)
    have hrow : rowMin (masked d M) = d a := by
      have : masked d M a = d a := if_neg haM
      rw [← this]
      refine rowMin_eq a fun k => ?_
      rw [this]
      unfold masked
      split
      · exact le_top
      · rename_i hk; exact hmin k (Finset.mem_compl.mpr hk)
    refine ⟨M ∪ Finset.univ.filter fun k => d k = d a, ?_, ?_, ?_, ?_⟩
    · funext k
      unfold clear
      rw [hrow]
      by_cases hk : k ∈ M
      · simp [masked, hk]
      · by_cases he : d k = d a
        · simp [masked, hk, he]
        · simp [masked, hk, he]
    · intro i hi k hki
      have hia : d i ≤ d a := by
        rcases Finset.mem_union.mp hi with hi | hi
        · exact (hlt i hi).le
        · exact ((Finset.mem_filter.mp hi).2).le
      by_cases hk : k ∈ M
      · exact Finset.mem_union_left _ hk
      · refine Finset.mem_union_right _ (Finset.mem_filter.mpr ⟨Finset.mem_univ _, ?_⟩)
        exact le_antisymm (hki.trans hia) (hmin k (Finset.mem_compl.mpr hk))
    all_goals
      have himg : (M ∪ Finset.univ.filter fun k => d k = d a).image d = insert (d a) (M.image d) := by
        ext x
        simp only [Finset.mem_image, Finset.mem_union, Finset.mem_filter, Finset.mem_univ, true_and, Finset.mem_insert]
        constructor
        · rintro ⟨k, hk | hk, rfl⟩
          · exact Or.inr ⟨k, hk, rfl⟩
          · exact Or.inl hk
        · rintro (rfl | ⟨k, hk, rfl⟩)
          · exact ⟨a, Or.inr rfl, rfl⟩
          · exact ⟨k, Or.inl hk, rfl⟩
      have hnot : d a ∉ M.image d := by
        intro hmem
        obtain ⟨k, hk, hke⟩ := Finset.mem_image.mp hmem
        exact (hlt k hk).ne hke
      rw [himg, Finset.card_insert_of_notMem hnot]
    · exact Nat.succ_le_succ h.few
    · rcases h.many with h' | h'
      · exact absurd h' hM
      · exact Or.inr (Nat.succ_le_succ h')

/-- After `r` rounds the row is the row with such a set cleared. -/
theorem cleared_iterate (d : Fin n → EReal) (hd : ∀ i, d i ≠ ⊤) (r : ℕ) :
    ∃ M, clear^[r] d = masked d M ∧ Cleared d r M := by
  induction r with
  | zero => exact ⟨∅, by funext i; simp [masked], cleared_zero d⟩
  | succ r ih =>
    obtain ⟨M, hM, hC⟩ := ih
    obtain ⟨M', hM', hC'⟩ := cleared_step d hd r M hC
    exact ⟨M', by rw [Function.iterate_succ_apply', hM, hM'], hC'⟩

/-- The indices of rank below `m` are `m` many. -/
theorem card_rank_lt (f : Fin n → EReal) {m : ℕ} (hm : m ≤ n) :
    (Finset.univ.filter fun i => rank f i < m).card = m := by
  classical
  have : (Finset.univ.filter fun i => rank f i < m) = (Finset.univ : Finset (Fin m)).image fun j => ord f (j.castLE hm) := by
    ext i
    simp only [Finset.mem_filter, Finset.mem_univ, true_and, Finset.mem_image]
    constructor
    · intro h
      exact ⟨⟨rank f i, h⟩, ord_rank f i⟩
    · rintro ⟨j, rfl⟩
      simp [rank_ord]
  rw [this, Finset.card_image_of_injective, Finset.card_univ, Fintype.card_fin]
  exact fun a b h => Fin.castLE_injective hm (ord_injective f h)

/-- A set closed under lesser and equal entries is an initial piece of the order. -/
theorem initial_of_closed (d : Fin n → EReal) (M : Finset (Fin n)) (h : ∀ i ∈ M, ∀ k, d k ≤ d i → k ∈ M) (i : Fin n) :
    i ∈ M ↔ rank (neg d) i < M.card := by
  classical
  have hsub : M ⊆ Finset.univ.filter fun i => rank (neg d) i < M.card := by
    intro i hi
    refine Finset.mem_filter.mpr ⟨Finset.mem_univ _, ?_⟩
    unfold rank
    refine Finset.card_lt_card ⟨fun k hk => ?_, fun hs => ?_⟩
    · rcases (Finset.mem_filter.mp hk).2 with hk | hk
      · exact h i hi k (EReal.neg_lt_neg_iff.mp hk).le
      · exact h i hi k (neg_injective hk.1).le
    · exact before_irrefl _ i (Finset.mem_filter.mp (hs hi)).2
  have heq := Finset.eq_of_subset_of_card_le hsub (by
    rw [card_rank_lt]
    simpa using Finset.card_le_univ M)
  constructor
  · intro hi; exact (Finset.mem_filter.mp (hsub hi)).2
  · intro hi; rw [heq]; exact Finset.mem_filter.mpr ⟨Finset.mem_univ _, hi⟩

/-- The precondition on one row: of the nineteen steps from one place to the next among the first twenty, at least
    sixteen rise strictly. -/
def FewTies (d : Fin n → EReal) (hn : 20 ≤ n) : Prop :=
  16 ≤ (Finset.univ.filter fun j : Fin 19 =>
    neg d (ord (neg d) ⟨j.val + 1, by omega⟩) < neg d (ord (neg d) ⟨j.val, by omega⟩)).card

/-- Then the first twenty entries are of at least seventeen values. -/
theorem seventeen_values (d : Fin n → EReal) (hn : 20 ≤ n) (h : FewTies d hn) (M : Finset (Fin n))
    (hM : ∀ i, rank (neg d) i < 20 → i ∈ M) : 17 ≤ (M.image d).card := by
  classical
  let v : Fin 20 → EReal := fun j => neg d (ord (neg d) (j.castLE hn))
  have hv : ∀ a b : Fin 20, a ≤ b → v b ≤ v a := fun a b hab => ord_antitone (neg d) (by simpa using hab)
  let A : Finset (Fin 19) := Finset.univ.filter fun j : Fin 19 =>
    neg d (ord (neg d) ⟨j.val + 1, by omega⟩) < neg d (ord (neg d) ⟨j.val, by omega⟩)
  let S : Finset (Fin 20) := insert 0 (A.image Fin.succ)
  have hS : 17 ≤ S.card := by
    rw [Finset.card_insert_of_notMem (by simp), Finset.card_image_of_injective _ (Fin.succ_injective 19)]
    exact Nat.succ_le_succ h
  have hstrict : ∀ a ∈ S, ∀ b ∈ S, a < b → v b < v a := by
    intro a _ b hb hab
    rcases Finset.mem_insert.mp hb with rfl | hb
    · exact absurd hab (by simp)
    · obtain ⟨j, hj, rfl⟩ := Finset.mem_image.mp hb
      have h1 : v j.succ < v j.castSucc := (Finset.mem_filter.mp hj).2
      exact lt_of_lt_of_le h1 (hv _ _ (Fin.le_castSucc_iff.mpr hab))
  have hinj : Set.InjOn v S := by
    intro a ha b hb hab
    rcases lt_trichotomy a b with hl | hl | hl
    · exact absurd hab (hstrict a ha b hb hl).ne'
    · exact hl
    · exact absurd hab (hstrict b hb a ha hl).ne
  have hsub : (S.image v).image (fun x => -x) ⊆ M.image d := by
    intro x hx
    obtain ⟨y, hy, rfl⟩ := Finset.mem_image.mp hx
    obtain ⟨j, _, rfl⟩ := Finset.mem_image.mp hy
    exact Finset.mem_image.mpr ⟨ord (neg d) (j.castLE hn), hM _ (by rw [rank_ord]; exact j.isLt), (neg_neg _).symm⟩
  calc 17 ≤ S.card := hS
    _ = (S.image v).card := (Finset.card_image_of_injOn hinj).symm
    _ = ((S.image v).image fun x => -x).card := (Finset.card_image_of_injective _ neg_injective).symm
    _ ≤ (M.image d).card := Finset.card_le_card hsub

/-- After sixteen rounds the entries that are +∞ are the first sixteen to nineteen of the order. -/
theorem sixteen_rounds (d : Fin n → EReal) (hd : ∀ i, d i ≠ ⊤) (hn : 20 ≤ n) (h : FewTies d hn) :
    ∃ c, 16 ≤ c ∧ c ≤ 19 ∧ ∀ i, clear^[16] d i = ⊤ ↔ rank (neg d) i < c := by
  classical
  obtain ⟨M, hM, hC⟩ := cleared_iterate d hd 16
  have hmem := initial_of_closed d M hC.closed
  have hlt : M.card ≤ 19 := by
    by_contra hlt
    have := seventeen_values d hn h M fun i hi => (hmem i).mpr (by omega)
    have := hC.few
    omega
  refine ⟨M.card, ?_, hlt, fun i => ?_⟩
  · rcases hC.many with h' | h'
    · subst h'
      rw [Finset.card_univ, Fintype.card_fin] at hlt
      omega
    · exact h'.trans Finset.card_image_le
  · rw [hM, ← hmem]
    unfold masked
    by_cases hi : i ∈ M
    · simp [hi]
    · simp [hi, hd i]

/-! ## The drops -/

/-- The greatest entry of the first `q` of the order is the last one's. -/
theorem rowMax_first (d : Fin n → EReal) (q : ℕ) (hq : q < n) (hq0 : 0 < q) (m : Fin n → EReal)
    (hm : ∀ i, m i = if rank (neg d) i < q then d i else ⊥) :
    rowMax m = d (ord (neg d) ⟨q - 1, by omega⟩) := by
  have hl : m (ord (neg d) ⟨q - 1, by omega⟩) = d (ord (neg d) ⟨q - 1, by omega⟩) := by
    rw [hm, if_pos (by rw [rank_ord]; show q - 1 < q; omega)]
  rw [← hl]
  refine rowMax_eq _ fun k => ?_
  rw [hl, hm]
  split
  · rename_i hk
    obtain ⟨j, rfl⟩ := ord_surjective (neg d) k
    rw [rank_ord] at hk
    have := ord_antitone (neg d) (i := j) (j := ⟨q - 1, by omega⟩) (by rw [Fin.le_def]; show j.val ≤ q - 1; omega)
    exact EReal.neg_le_neg_iff.mp this
  · exact bot_le

/-- The highest index of that entry among the first `q`, as the kernel computes it, is the last one's. -/
theorem highest_word (d : Fin n → EReal) (q : ℕ) (hq : q < n) (hq0 : 0 < q) (hn : n < 2 ^ 31) (init c : BitVec 32)
    (hinit : init.toInt < 0) (hc : c.toInt < 0) (g : Fin n → BitVec 32)
    (hg : ∀ k, g k = if rank (neg d) k < q ∧ d k = d (ord (neg d) ⟨q - 1, by omega⟩) then word k else c) :
    Finset.univ.fold IntOp.maxsi init g = word (ord (neg d) ⟨q - 1, by omega⟩) := by
  have hr : g (ord (neg d) ⟨q - 1, by omega⟩) = word (ord (neg d) ⟨q - 1, by omega⟩) := by
    rw [hg, if_pos ⟨by rw [rank_ord]; show q - 1 < q; omega, rfl⟩]
  rw [← hr]
  refine fold_maxsi_eq _ _ _ (by rw [hr, word_toInt hn]; omega) fun k => ?_
  rw [hr, hg, word_toInt hn]
  split
  · rename_i h
    rw [word_toInt hn]
    obtain ⟨h1, h2⟩ := h
    by_contra hlt
    have hlt : (ord (neg d) ⟨q - 1, by omega⟩) < k := by
      rw [Fin.lt_def]; have := not_le.mp hlt; exact_mod_cast this
    have := (before_iff_rank (neg d) (ord (neg d) ⟨q - 1, by omega⟩) k).mp (Or.inr ⟨by show -(d _) = -(d k); rw [h2], hlt⟩)
    rw [rank_ord] at this
    have : q - 1 < rank (neg d) k := this
    omega
  · omega

/-- One drop: the last of the first `max 16 (c − l)` of the order goes if the mask began with more than `16 + l`. -/
theorem drop_step (f : Fin n → EReal) (c l : ℕ) (hc : c < n) (hn : 16 < n) (hpos : max 16 (c - l) - 1 < n) (i : Fin n) :
    (rank f i < max 16 (c - l) ∧ ¬ (i = ord f ⟨max 16 (c - l) - 1, hpos⟩ ∧ 16 + l < c))
      ↔ rank f i < max 16 (c - (l + 1)) := by
  obtain ⟨j, rfl⟩ := ord_surjective f i
  rw [rank_ord]
  have : ord f j = ord f ⟨max 16 (c - l) - 1, hpos⟩ ↔ j.val = max 16 (c - l) - 1 :=
    ⟨fun h => congrArg Fin.val (ord_injective f h), fun h => congrArg (ord f) (Fin.ext h)⟩
  rw [this]
  omega

end Cert.Proof

end
-- ==== Proof.Spec.lean ====
/-
  The mathematics of the problem at one point of the cloud, over the extended reals: the distance of two points in the
  form both programs compute it, the layer that fuses a point's own features with the features interpolated from the
  three farthest points of the second cloud, and the layer over the sixteen nearest points of the first. Neither
  mentions a program.
-/
module

public import Mathlib.Data.EReal.Inv
public import Idealize.ShloMosaic.PureOps.Ideal
public import proofs.«01_k».proof.Proof.Least

@[expose] public section

noncomputable section

namespace Cert.Proof

open Idealize.ShloMosaic

/-- The squared distance of two points: −2 times their inner product, plus the square of each. -/
def dist (u v : Fin 3 → EReal) : EReal :=
  Ideal.ofBits .f32 0xC0000000#32 * (∑ k, u k * v k) + (∑ k, u k * u k) + ∑ k, v k * v k

/-- The weight of a distance. -/
def wgt (v : EReal) : EReal := Ideal.div 1 (v + Ideal.ofBits .f32 0x322BCC77#32)

/-- The sum of the weights of the three greatest values. -/
def wsum (f : Fin 512 → EReal) : EReal := ∑ j : Fin 3, wgt (f (ord f (j.castLE (by norm_num))))

/-- The interpolation of the values `x` by the distances `f`: the weights of the three greatest distances over their sum. -/
def interp (f x : Fin 512 → EReal) : EReal := ∑ i, Ideal.div (if rank f i < 3 then wgt (f i) else 0) (wsum f) * x i

/-- The fusing layer at a point `u` with features `p`, against the points `v` with features `q`: one output, of weights
    `w` and bias `b`. -/
def fuseAt (u : Fin 3 → EReal) (v : Fin 512 → Fin 3 → EReal) (p : Fin 64 → EReal) (q : Fin 512 → Fin 128 → EReal)
    (w : Fin 192 → EReal) (b : EReal) : EReal :=
  (∑ c : Fin 64, p c * w ⟨c.val, by omega⟩)
    + (∑ c : Fin 128, interp (fun s => dist u (v s)) (fun s => q s c) * w ⟨64 + c.val, by omega⟩) + b

/-- The sum of the values `x` over the sixteen least of the distances `f`. -/
def nearSum (f x : Fin 2048 → EReal) : EReal := ∑ i, if rank (neg f) i < 16 then x i else 0

/-- The second layer at a point `u` with features `xq`, among the points `v` with features `x`: one output, of weights
    `w` and bias `b`. -/
def lapAt (u : Fin 3 → EReal) (v : Fin 2048 → Fin 3 → EReal) (x : Fin 2048 → Fin 128 → EReal) (xq : Fin 128 → EReal)
    (w : Fin 128 → EReal) (b : EReal) : EReal :=
  max ((∑ c, (nearSum (fun i => dist (v i) u) (fun i => x i c) - xq c) * w c) + b) 0

end Cert.Proof

end
-- ==== Proof.Norm.lean ====
/-
  The batch normalisation, two ways, over the extended reals. The kernel takes the variance as the mean of the squares
  less the square of the mean and folds the scale and the shift into one product and one sum; the reference subtracts
  the mean first. `norm_eq`: for a finite scale the two agree at every family of extended reals and at every shift. A
  family with an infinite member has an infinite spread, and both ways give the shift alone.
-/
module

public import Idealize.ShloMosaic.Lib.StableHlo
public import Idealize.ShloMosaic.PureOps
public import Idealize.ShloMosaic.PureOps.Ideal
public import Idealize.ShloMosaic.PureOps.Ideal.Laws

@[expose] public section

noncomputable section

namespace Cert.Proof

open Idealize.ShloMosaic

variable {ι : Type} [Fintype ι]

/-- The mean of a family: its sum over the count `N`. -/
def mean (N : EReal) (y : ι → EReal) : EReal := Ideal.div (∑ i, y i) N

/-- The kernel's variance: the mean of the squares less the square of the mean. -/
def varSq (N : EReal) (y : ι → EReal) : EReal := Ideal.div (∑ i, y i * y i) N - mean N y * mean N y

/-- The reference's variance: the mean of the squared distances from the mean. -/
def varDev (N : EReal) (y : ι → EReal) : EReal := Ideal.div (∑ i, (y i - mean N y) * (y i - mean N y)) N

/-- The kernel's scale: `γ` over the square root of the variance plus `ε`. -/
def scaleSq (N ε γ : EReal) (y : ι → EReal) : EReal := Ideal.div γ (Ideal.sqrt (varSq N y + ε))

/-- The kernel's shift: `β` less the mean times the scale. -/
def shiftSq (N ε γ β : EReal) (y : ι → EReal) : EReal := β - mean N y * scaleSq N ε γ y

/-- The reference's normalisation of the member `y i`. -/
def normDev (N ε γ β : EReal) (y : ι → EReal) (i : ι) : EReal :=
  Ideal.div (y i - mean N y) (Ideal.sqrt (varDev N y + ε)) * γ + β

/-- A quotient of reals by a real that is not zero is the reals' quotient. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A square is never negative. -/
theorem sq_nonneg_ereal (x : EReal) : 0 ≤ x * x := by
  rcases le_total 0 x with h | h
  · exact mul_nonneg h h
  · have := mul_nonneg (EReal.neg_nonneg.mpr h) (EReal.neg_nonneg.mpr h)
    simpa using this

/-- A sum with a term −∞ is −∞. -/
theorem sum_bot (y : ι → EReal) (i : ι) (h : y i = ⊥) : ∑ k, y k = ⊥ := by
  classical
  rw [← Finset.add_sum_erase _ _ (Finset.mem_univ i), h, EReal.bot_add]

/-- A sum of terms none of which is −∞ is not −∞. -/
theorem sum_ne_bot (y : ι → EReal) (h : ∀ k, y k ≠ ⊥) (s : Finset ι) : ∑ k ∈ s, y k ≠ ⊥ := by
  classical
  refine Finset.induction_on s (by simp) fun a s ha ih => ?_
  rw [Finset.sum_insert ha, Ne, EReal.add_eq_bot_iff]
  rintro (h' | h')
  · exact h a h'
  · exact ih h'

/-- A sum with a term +∞ and none −∞ is +∞. -/
theorem sum_top (y : ι → EReal) (h : ∀ k, y k ≠ ⊥) (i : ι) (hi : y i = ⊤) : ∑ k, y k = ⊤ := by
  classical
  rw [← Finset.add_sum_erase _ _ (Finset.mem_univ i), hi, EReal.top_add_of_ne_bot (sum_ne_bot y h _)]

/-- A sum of reals is the reals' sum. -/
theorem sum_coe (r : ι → ℝ) : ∑ i, ((r i : ℝ) : EReal) = ((∑ i, r i : ℝ) : EReal) := by
  classical
  have : ∀ s : Finset ι, ∑ i ∈ s, ((r i : ℝ) : EReal) = ((∑ i ∈ s, r i : ℝ) : EReal) := fun s =>
    Finset.induction_on s (by simp) fun a s ha ih => by rw [Finset.sum_insert ha, Finset.sum_insert ha, ih, EReal.coe_add]
  exact this _

/-- The mean of the squares less the square of the mean is the mean of the squared distances from the mean. -/
theorem variance_real (r : ι → ℝ) (hc : (Fintype.card ι : ℝ) ≠ 0) :
    (∑ i, r i * r i) / Fintype.card ι - (∑ i, r i) / Fintype.card ι * ((∑ i, r i) / Fintype.card ι)
      = (∑ i, (r i - (∑ i, r i) / Fintype.card ι) * (r i - (∑ i, r i) / Fintype.card ι)) / Fintype.card ι := by
  set c : ℝ := (Fintype.card ι : ℝ)
  set S : ℝ := ∑ i, r i with hS
  have : ∑ i, (r i - S / c) * (r i - S / c) = (∑ i, r i * r i) - 2 * (S / c) * S + c * (S / c * (S / c)) := by
    have h1 : ∀ i, (r i - S / c) * (r i - S / c) = r i * r i - 2 * (S / c) * r i + S / c * (S / c) := fun i => by ring
    rw [Finset.sum_congr rfl fun i _ => h1 i, Finset.sum_add_distrib, Finset.sum_sub_distrib, ← Finset.mul_sum,
      Finset.sum_const, Finset.card_univ, nsmul_eq_mul]
  rw [this]
  field_simp
  ring

/-- The two ways agree on a family of reals. -/
theorem norm_eq_real (r : ι → ℝ) (hc : 0 < Fintype.card ι) (ε γ : ℝ) (hε : 0 < ε) (β : EReal) (i : ι) :
    (r i : EReal) * scaleSq ((Fintype.card ι : ℝ) : EReal) ε γ (fun i => (r i : EReal))
        + shiftSq ((Fintype.card ι : ℝ) : EReal) ε γ β (fun i => (r i : EReal))
      = normDev ((Fintype.card ι : ℝ) : EReal) ε γ β (fun i => (r i : EReal)) i := by
  have hc' : (Fintype.card ι : ℝ) ≠ 0 := by exact_mod_cast hc.ne'
  have hm : mean ((Fintype.card ι : ℝ) : EReal) (fun i => (r i : EReal)) = (((∑ i, r i) / Fintype.card ι : ℝ) : EReal) := by
    rw [mean, sum_coe, div_coe _ _ hc']
  have hv : varDev ((Fintype.card ι : ℝ) : EReal) (fun i => (r i : EReal))
      = (((∑ i, (r i - (∑ i, r i) / Fintype.card ι) * (r i - (∑ i, r i) / Fintype.card ι)) / Fintype.card ι : ℝ) : EReal) := by
    rw [varDev, hm]
    simp only [← EReal.coe_sub, ← EReal.coe_mul]
    rw [sum_coe, div_coe _ _ hc']
  have hv' : varSq ((Fintype.card ι : ℝ) : EReal) (fun i => (r i : EReal))
      = varDev ((Fintype.card ι : ℝ) : EReal) (fun i => (r i : EReal)) := by
    rw [hv, ← variance_real r hc', varSq, hm]
    simp only [← EReal.coe_mul]
    rw [sum_coe, div_coe _ _ hc', ← EReal.coe_sub]
  have hnn : 0 ≤ (∑ i, (r i - (∑ i, r i) / Fintype.card ι) * (r i - (∑ i, r i) / Fintype.card ι)) / (Fintype.card ι : ℝ) :=
    div_nonneg (Finset.sum_nonneg fun i _ => mul_self_nonneg _) (Nat.cast_nonneg _)
  set v := (∑ i, (r i - (∑ i, r i) / Fintype.card ι) * (r i - (∑ i, r i) / Fintype.card ι)) / (Fintype.card ι : ℝ)
  set m := (∑ i, r i) / (Fintype.card ι : ℝ)
  have hs : Ideal.sqrt (((v : ℝ) : EReal) + ((ε : ℝ) : EReal)) = ((Real.sqrt (v + ε) : ℝ) : EReal) := by
    rw [← EReal.coe_add]
    show (if v + ε < 0 then (⊥ : EReal) else _) = _
    rw [if_neg (by linarith)]
  have hs0 : Real.sqrt (v + ε) ≠ 0 := (Real.sqrt_pos.mpr (by linarith)).ne'
  unfold shiftSq scaleSq normDev
  rw [hv', hv, hm, hs, div_coe _ _ hs0, ← EReal.coe_mul, ← EReal.coe_mul, ← EReal.coe_sub, div_coe _ _ hs0, ← EReal.coe_mul,
    sub_eq_add_neg, add_comm β, ← add_assoc, ← EReal.coe_neg, ← EReal.coe_add]
  congr 2
  ring

/-- A quotient by −∞ is zero. -/
theorem div_bot (x : EReal) : Ideal.div x ⊥ = 0 := by
  unfold Ideal.div; rw [if_neg (by simp)]; simp

/-- A quotient by +∞ is zero. -/
theorem div_top (x : EReal) : Ideal.div x ⊤ = 0 := by
  unfold Ideal.div; rw [if_neg (by simp)]; simp

/-- An infinite value over a positive real is itself. -/
theorem top_div (c : ℝ) (hc : 0 < c) : Ideal.div ⊤ (c : EReal) = ⊤ := by
  unfold Ideal.div
  rw [if_neg (by exact_mod_cast hc.ne'), ← EReal.coe_inv, EReal.top_mul_coe_of_pos (inv_pos.mpr hc)]

/-- An infinite value over a positive real is itself. -/
theorem bot_div (c : ℝ) (hc : 0 < c) : Ideal.div ⊥ (c : EReal) = ⊥ := by
  unfold Ideal.div
  rw [if_neg (by exact_mod_cast hc.ne'), ← EReal.coe_inv, EReal.bot_mul_coe_of_pos (inv_pos.mpr hc)]

/-- Both ways give the shift alone on a family with an infinite member. -/
theorem norm_eq_infinite (y : ι → EReal) (k : ι) (hk : y k = ⊤ ∨ y k = ⊥) (c ε : ℝ) (hc : 0 < c) (γ β : EReal) (i : ι) :
    y i * scaleSq (c : EReal) ε γ y + shiftSq (c : EReal) ε γ β y = normDev (c : EReal) ε γ β y i := by
  have hm : mean (c : EReal) y = ⊤ ∨ mean (c : EReal) y = ⊥ := by
    unfold mean
    by_cases hb : ∃ j, y j = ⊥
    · obtain ⟨j, hj⟩ := hb
      exact Or.inr (by rw [sum_bot y j hj, bot_div c hc])
    · have hb : ∀ j, y j ≠ ⊥ := fun j hj => hb ⟨j, hj⟩
      rcases hk with hk | hk
      · exact Or.inl (by rw [sum_top y hb k hk, top_div c hc])
      · exact absurd hk (hb k)
  have hsq : ∀ j, y j * y j ≠ ⊥ := fun j h => by
    have := sq_nonneg_ereal (y j); rw [h] at this; exact absurd this (by simp)
  have hQ : ∑ j, y j * y j = ⊤ := sum_top _ hsq k (by rcases hk with hk | hk <;> simp [hk])
  have hmm : mean (c : EReal) y * mean (c : EReal) y = ⊤ := by rcases hm with h | h <;> simp [h]
  have hvar : varSq (c : EReal) y = ⊥ := by
    rw [varSq, hQ, top_div c hc, hmm]; rfl
  have hscale : scaleSq (c : EReal) ε γ y = 0 := by
    rw [scaleSq, hvar, EReal.bot_add, show Ideal.sqrt ⊥ = ⊥ from rfl, div_bot]
  have hdev : ∀ j, (y j - mean (c : EReal) y) * (y j - mean (c : EReal) y) = ⊤ := fun j => by
    rcases hm with h | h
    · rw [h, show y j - ⊤ = ⊥ from by rw [sub_eq_add_neg, EReal.neg_top, EReal.add_bot]]; simp
    · rw [h, sub_eq_add_neg, EReal.neg_bot]
      by_cases hj : y j = ⊥
      · rw [hj, EReal.bot_add]; simp
      · rw [EReal.add_top_of_ne_bot hj]; simp
  have hvd : varDev (c : EReal) y = ⊤ := by
    rw [varDev, sum_top _ (fun j => by rw [hdev j]; simp) k (hdev k), top_div c hc]
  rw [shiftSq, hscale, normDev, hvd, EReal.top_add_coe, show Ideal.sqrt ⊤ = ⊤ from rfl, div_top]
  simp

/-- The two ways agree: at every family of extended reals, every shift and every finite scale. -/
theorem norm_eq (y : ι → EReal) (hc : 0 < Fintype.card ι) (ε γ : ℝ) (hε : 0 < ε) (β : EReal) (i : ι) :
    y i * scaleSq ((Fintype.card ι : ℝ) : EReal) ε γ y + shiftSq ((Fintype.card ι : ℝ) : EReal) ε γ β y
      = normDev ((Fintype.card ι : ℝ) : EReal) ε γ β y i := by
  by_cases h : ∃ k, y k = ⊤ ∨ y k = ⊥
  · obtain ⟨k, hk⟩ := h
    exact norm_eq_infinite y k hk _ ε (by exact_mod_cast hc) γ β i
  · have hr : ∀ k, ((y k).toReal : EReal) = y k := fun k =>
      EReal.coe_toReal (fun e => h ⟨k, Or.inl e⟩) (fun e => h ⟨k, Or.inr e⟩)
    have := norm_eq_real (fun k => (y k).toReal) hc ε γ hε β i
    simpa only [hr] using this

end Cert.Proof

end
-- ==== Proof.Consts.lean ====
/-
  The extended reals that the programs' float patterns denote.
-/
module

public import Idealize.ShloMosaic.Lib.StableHlo
public import Idealize.ShloMosaic.PureOps
public import Idealize.ShloMosaic.PureOps.Ideal
public import Idealize.ShloMosaic.PureOps.Ideal.Laws

@[expose] public section

noncomputable section

namespace Cert.Proof

open Idealize.ShloMosaic

/-- The pattern of −∞. -/
theorem bits_bot : Ideal.ofBits .f32 0xFF800000#32 = ⊥ := by
  simp [Ideal.ofBits, Ideal.ieee]

/-- The pattern of +∞. -/
theorem bits_top : Ideal.ofBits .f32 0x7F800000#32 = ⊤ := by
  simp [Ideal.ofBits, Ideal.ieee]

/-- The pattern of −2. -/
theorem bits_neg_two : Ideal.ofBits .f32 0xC0000000#32 = ((-2 : ℝ) : EReal) := by
  simp [Ideal.ofBits, Ideal.ieee, -EReal.coe_mul]; norm_num

/-- The pattern of the distance's small addend, a positive real. -/
theorem bits_eps8 : ∃ e : ℝ, 0 < e ∧ Ideal.ofBits .f32 0x322BCC77#32 = (e : EReal) := by
  refine ⟨11258999 * 2 ^ (-50 : ℤ), by positivity, ?_⟩
  simp [Ideal.ofBits, Ideal.ieee, -EReal.coe_mul]

/-- The pattern of the variance's small addend, a positive real. -/
theorem bits_eps5 : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The pattern of 16384. -/
theorem bits_count : Ideal.ofBits .f32 0x46800000#32 = ((16384 : ℝ) : EReal) := by
  simp [Ideal.ofBits, Ideal.ieee, -EReal.coe_mul]; norm_num

/-- The pattern of 16. -/
theorem bits_16 : Ideal.ofBits .f32 0x41800000#32 = ((16 : ℝ) : EReal) := by
  simp [Ideal.ofBits, Ideal.ieee, -EReal.coe_mul]; norm_num

/-- The pattern of 17. -/
theorem bits_17 : Ideal.ofBits .f32 0x41880000#32 = ((17 : ℝ) : EReal) := by
  simp [Ideal.ofBits, Ideal.ieee, -EReal.coe_mul]; norm_num

/-- The pattern of 18. -/
theorem bits_18 : Ideal.ofBits .f32 0x41900000#32 = ((18 : ℝ) : EReal) := by
  simp [Ideal.ofBits, Ideal.ieee, -EReal.coe_mul]; norm_num

end Cert.Proof

end
-- ==== Proof.LapRounds.lean ====
/-
  The second kernel's rounds over a tile of distances. Sixteen rounds (`minRound`) each clear every column that holds
  its row's least value; the cleared columns, of which there may be more than sixteen when values repeat, are the mask;
  three rounds (`dropRound`) then take from the mask the last of its columns in the order of `Rank`, while the number
  first counted is above 16, 17 and 18. The lemmas read the rounds at an index: `adj_apply` says that the columns left
  are the sixteen of least rank.
-/
module

public import proofs.«01_k».proof.Proof.Gen.KernelIdeal.Skeleton
public import Idealize.ShloMosaic.Lib.Pointwise
public import proofs.«01_k».proof.Proof.Least
public import proofs.«01_k».proof.Proof.Norm
public import proofs.«01_k».proof.Proof.Consts

@[expose] public section

noncomputable section

namespace Cert.Proof

open Idealize.ShloMosaic Cert.KernelIdeal Cert.KernelIdeal.Gen

/-- A row has at least twenty columns. -/
theorem twenty_le : 20 ≤ 2048 := by norm_num

/-- One round: every column that holds its row's least value becomes +∞. -/
def minRound (d : FVec Ideal S256x2048 .f32) : FVec Ideal S256x2048 .f32 :=
  select (cmpf .oeq d (broadcastTo S256x2048 (shapeCast S256x1 (multiReduction .minimumf [1] S256 d 0x7F800000#32
    reduces_S256x2048_S256 (.inl rfl) rfl) shapeCasts_S256_S256x1) broadcasts_S256x1_S256x2048))
    (broadcast S256x2048 (Scalar.ofBits .f32 0x7F800000#32)) d

/-- The columns that are +∞. -/
def maskOf (d : FVec Ideal S256x2048 .f32) : IVec S256x2048 1 :=
  cmpf .oeq d (broadcast S256x2048 (Scalar.ofBits .f32 0x7F800000#32))

/-- A mask as ones and zeros. -/
def ones (m : IVec S256x2048 1) : FVec Ideal S256x2048 .f32 := sitofp .f32 (extui 32 m natLt_1_32)

/-- The number of marked columns of each row. -/
def countOf (m : IVec S256x2048 1) : FVec Ideal S256x1 .f32 :=
  shapeCast S256x1 (multiReduction .add [1] S256 (ones m) 0x00000000#32 reduces_S256x2048_S256 (.inl rfl) rfl)
    shapeCasts_S256_S256x1

/-- The greatest marked value of each row. -/
def markTop (d : FVec Ideal S256x2048 .f32) (m : IVec S256x2048 1) : FVec Ideal S256x1 .f32 :=
  shapeCast S256x1 (multiReduction .maximumf [1] S256 (select m d (broadcast S256x2048 (Scalar.ofBits .f32 0xFF800000#32)))
    0xFF800000#32 reduces_S256x2048_S256 (.inl rfl) rfl) shapeCasts_S256_S256x1

/-- The last marked column that holds it. -/
def lastHot (d : FVec Ideal S256x2048 .f32) (m : IVec S256x2048 1) : IVec S256x2048 1 :=
  cmpi .eq (iota .tc S256x2048 32 [1] iota_S256x2048_d1_w32) (broadcastTo S256x2048 (shapeCast S256x1
    (multiReductionI .maxsi [1] S256 (select (andi m (cmpf .oeq d (broadcastTo S256x2048 (markTop d m) broadcasts_S256x1_S256x2048)))
      (iota .tc S256x2048 32 [1] iota_S256x2048_d1_w32) (broadcast S256x2048 4294967295#32)) 2147483648#32
      reduces_S256x2048_S256 rfl) shapeCasts_S256_S256x1) broadcasts_S256x1_S256x2048)

/-- One round: where the count is above the threshold, the last marked column leaves the mask. -/
def dropRound (d : FVec Ideal S256x2048 .f32) (cnt : FVec Ideal S256x1 .f32) (thr : BitVec 32) (m : IVec S256x2048 1) :
    IVec S256x2048 1 :=
  andi m (xori (andi (lastHot d m) (broadcastTo S256x2048 (cmpf .ogt cnt (broadcast S256x1 (Scalar.ofBits .f32 thr)))
    broadcasts_S256x1_S256x2048)) (constantI S256x2048 1 1#1))

/-- The three rounds after the mask `m` was counted. -/
def trim (d : FVec Ideal S256x2048 .f32) (m : IVec S256x2048 1) : IVec S256x2048 1 :=
  dropRound d (countOf m) 0x41900000#32 (dropRound d (countOf m) 0x41880000#32 (dropRound d (countOf m) 0x41800000#32 m))

/-- The sixteen nearest columns. -/
def adj (d : FVec Ideal S256x2048 .f32) : IVec S256x2048 1 := trim d (maskOf (minRound^[16] d))

/-- The layer before its maximum with zero: the sum of the nearest rows less the row itself, times the weights, plus
    the bias. -/
def lapLin (xf : FVec Ideal S2048x128 .f32) (m : IVec S256x2048 1) (yq : Vec Ideal S1x256x128 .f32)
    (sc sh : Vec Ideal S1x128 .f32) (wl : Vec Ideal S128x128 .f32) (bl : Vec Ideal S1x128 .f32) : FVec Ideal S256x128 .f32 :=
  addf (matmul (φ₁ := .f32) (φ₂ := .f32) dot_S256x128_S128x128_S256x128_1_1_0_0_n_n none
    (subf (matmul (φ₁ := .f32) (φ₂ := .f32) dot_S256x2048_S2048x128_S256x128_1_0_0_1_n_n none (ones m) xf
        (constant S256x128 .f32 0x00000000#32))
      (maximumf (addf (mulf (shapeCast S256x128 yq shapeCasts_S1x256x128_S256x128 : FVec Ideal S256x128 .f32)
          (broadcastTo S256x128 (shapeCast S1x128 sc shapeCasts_S1x128_S1x128 : FVec Ideal S1x128 .f32) broadcasts_S1x128_S256x128))
        (broadcastTo S256x128 (shapeCast S1x128 sh shapeCasts_S1x128_S1x128 : FVec Ideal S1x128 .f32) broadcasts_S1x128_S256x128))
        (broadcast S256x128 (Scalar.ofBits .f32 0x00000000#32))))
    wl (constant S256x128 .f32 0x00000000#32))
    (broadcastTo S256x128 (shapeCast S1x128 bl shapeCasts_S1x128_S1x128 : FVec Ideal S1x128 .f32) broadcasts_S1x128_S256x128)

/-- The kernel's sixteen rounds are `minRound` sixteen times. -/
theorem rounds_eq (v12 : Vec Ideal S1x256x3 .f32) (v14 : Vec Ideal S1x2048x3 .f32) :
    k1_pay10 (k1_pay8 (k1_pay7 v12 v14)) (k1_pay9 (k1_pay7 v12 v14)) = minRound^[16] (k1_pay6 v12 v14) := by
  have h7 : k1_pay7 v12 v14 = minRound (k1_pay6 v12 v14) := rfl
  have h8 : ∀ d : FVec Ideal S256x2048 .f32, k1_pay8 d = minRound (minRound (minRound (minRound (minRound (minRound
    (minRound d)))))) := fun d => rfl
  have h10 : ∀ d : FVec Ideal S256x2048 .f32, k1_pay10 (k1_pay8 d) (k1_pay9 d) = minRound (minRound (minRound (minRound
    (minRound (minRound (minRound (minRound (k1_pay8 d)))))))) := fun d => rfl
  rw [h10, h8, h7]
  simp only [Function.iterate_succ_apply', Function.iterate_zero_apply]

/-- The kernel's layer is `lapLin` of the trimmed mask. -/
theorem lapLin_eq (v11 : FVec Ideal S2048x128 .f32) (d e : FVec Ideal S256x2048 .f32) (v193 : Vec Ideal S1x256x128 .f32)
    (v195 v199 : Vec Ideal S1x128 .f32) (v206 : Vec Ideal S128x128 .f32) (v208 : Vec Ideal S1x128 .f32) :
    k1_pay15 v11 d (iota .tc S256x2048 32 [1] iota_S256x2048_d1_w32) (k1_pay12 e (Scalar.ofBits .f32 0x7F800000#32))
      (k1_pay13 d (iota .tc S256x2048 32 [1] iota_S256x2048_d1_w32) e (Scalar.ofBits .f32 0x7F800000#32))
      (k1_pay14 d (iota .tc S256x2048 32 [1] iota_S256x2048_d1_w32) e (Scalar.ofBits .f32 0x7F800000#32))
      v193 v195 v199 v206 v208
      = lapLin v11 (trim d (maskOf e)) v193 v195 v199 v206 v208 := rfl

/-- The conjunction of a bit and a test. -/
theorem andi_bits (a b : Prop) [Decidable a] [Decidable b] :
    IntOp.andi (if a then 1#1 else 0#1) (BitVec.ofBool (decide b)) = if a ∧ b then 1#1 else 0#1 := by
  by_cases ha : a <;> by_cases hb : b <;> simp [ha, hb, IntOp.andi]

/-- A choice by a bit is a choice by the bit's test. -/
theorem select_bit {α : Type} (a : Prop) [Decidable a] (x y : α) :
    Scalar.select (if a then 1#1 else 0#1) x y = if a then x else y := by
  by_cases ha : a <;> simp [ha, Scalar.select]

variable (d : FVec Ideal S256x2048 .f32) (p : Fin 256) (f : Fin 2048 → EReal)

/-- A round at an index. -/
theorem minRound_apply (h : ∀ i, d (ix2 p i) = f i) (i : Fin 2048) : minRound d (ix2 p i) = clear f i := by
  pointwise [minRound]
  simp only [h, bits_top]
  rfl

/-- The rounds at an index. -/
theorem minRound_iterate (h : ∀ i, d (ix2 p i) = f i) (r : ℕ) :
    ∀ i, (minRound^[r] d) (ix2 p i) = (clear^[r] f) i := by
  induction r with
  | zero => exact h
  | succ r ih =>
    intro i
    rw [Function.iterate_succ_apply', Function.iterate_succ_apply']
    exact minRound_apply _ p _ ih i

/-- A mask as ones and zeros, at an index. -/
theorem ones_apply (m : IVec S256x2048 1) (i : Fin 2048) (b : Prop) [Decidable b] (h : m (ix2 p i) = if b then 1#1 else 0#1) :
    ones m (ix2 p i) = if b then 1 else 0 := by
  pointwise [ones]
  rw [h]
  by_cases e : b
  · rw [if_pos e, if_pos e]
    show (((1#32 : BitVec 32).toInt : ℝ) : EReal) = 1
    simp
  · rw [if_neg e, if_neg e]
    show (((0#32 : BitVec 32).toInt : ℝ) : EReal) = 0
    simp

/-- A sum of ones over the indices of rank below `c` is `c`. -/
theorem sum_rank_lt (g : Fin 2048 → EReal) (c : ℕ) (hc : c ≤ 2048) :
    (∑ i, if rank g i < c then (1 : EReal) else 0) = ((c : ℝ) : EReal) := by
  rw [← Finset.sum_filter, Finset.sum_const, card_rank_lt g hc]
  simp

/-- The number of marked columns. -/
theorem countOf_apply (m : IVec S256x2048 1) (c : ℕ) (hc : c ≤ 2048)
    (h : ∀ i, m (ix2 p i) = if rank (neg f) i < c then 1#1 else 0#1) : countOf m (ix2 p 0) = ((c : ℝ) : EReal) := by
  have ho := fun i => ones_apply p m i _ (h i)
  pointwise [countOf]
  rw [Finset.sum_congr rfl fun i _ => ho i]
  exact sum_rank_lt (neg f) c hc

/-- The greatest marked value, when the marked columns are those of rank below `q`. -/
theorem markTop_apply (m : IVec S256x2048 1) (q : ℕ) (hq : q < 2048) (hq0 : 0 < q) (hd : ∀ i, d (ix2 p i) = f i)
    (h : ∀ i, m (ix2 p i) = if rank (neg f) i < q then 1#1 else 0#1) :
    markTop d m (ix2 p 0) = f (ord (neg f) ⟨q - 1, by omega⟩) := by
  rw [← rowMax_first f q hq hq0 (fun i => if rank (neg f) i < q then f i else ⊥) fun i => rfl]
  pointwise [markTop]
  simp only [h, hd, bits_bot]
  unfold rowMax
  refine congrArg (fun g => Finset.univ.fold max ⊥ g) (funext fun i => ?_)
  by_cases e : rank (neg f) i < q <;> simp [e, Scalar.select]

/-- The last marked column is the one in place `q - 1`. -/
theorem lastHot_apply (m : IVec S256x2048 1) (q : ℕ) (hq : q < 2048) (hq0 : 0 < q) (hd : ∀ i, d (ix2 p i) = f i)
    (h : ∀ i, m (ix2 p i) = if rank (neg f) i < q then 1#1 else 0#1) (i : Fin 2048) :
    lastHot d m (ix2 p i) = if i = ord (neg f) ⟨q - 1, by omega⟩ then 1#1 else 0#1 := by
  have ht := markTop_apply d p f m q hq hq0 hd h
  have hw := highest_word f q hq hq0 (by norm_num) 2147483648#32 4294967295#32 (by decide) (by decide)
    (fun k => if rank (neg f) k < q ∧ f k = f (ord (neg f) ⟨q - 1, by omega⟩) then word k else 4294967295#32) (fun k => rfl)
  refine Eq.trans ?_ (cmpi_word (by norm_num) i _)
  rw [← hw]
  pointwise [lastHot]
  refine congrArg (fun g => IntOp.cmpi .eq (word i) (Finset.univ.fold IntOp.maxsi 2147483648#32 g)) (funext fun k => ?_)
  refine Eq.trans ?_ (select_bit (rank (neg f) k < q ∧ f k = f (ord (neg f) ⟨q - 1, by omega⟩)) (word k) 4294967295#32)
  refine congrArg (fun b => Scalar.select b (word k) 4294967295#32) ?_
  have e : d (ix2 p k) = markTop d m (ix2 p 0) ↔ f k = f (ord (neg f) ⟨q - 1, by omega⟩) := by rw [hd k, ht]
  exact (congrArg₂ IntOp.andi (h k) (congrArg BitVec.ofBool (decide_eq_decide.mpr e))).trans (andi_bits _ _)

/-- A drop at an index: the last marked column leaves where the count is above the threshold. -/
theorem dropRound_apply (m : IVec S256x2048 1) (c l : ℕ) (hc : c < 2048) (cnt : FVec Ideal S256x1 .f32) (thr : BitVec 32)
    (hcnt : cnt (ix2 p 0) = ((c : ℝ) : EReal)) (hthr : Ideal.ofBits .f32 thr = (((16 + l : ℕ) : ℝ) : EReal))
    (hd : ∀ i, d (ix2 p i) = f i) (h : ∀ i, m (ix2 p i) = if rank (neg f) i < max 16 (c - l) then 1#1 else 0#1) (i : Fin 2048) :
    dropRound d cnt thr m (ix2 p i) = if rank (neg f) i < max 16 (c - (l + 1)) then 1#1 else 0#1 := by
  have hl := lastHot_apply d p f m (max 16 (c - l)) (by omega) (by omega) hd h i
  have hs := drop_step (neg f) c l hc (by norm_num) (by omega) i
  pointwise [dropRound]
  rw [hl, h i, hcnt, hthr]
  have hcmp : ((((16 + l : ℕ) : ℝ) : EReal) < ((c : ℝ) : EReal)) ↔ 16 + l < c := by
    rw [EReal.coe_lt_coe_iff]; exact Nat.cast_lt
  have hx : ∀ a b : Prop, ∀ [Decidable a] [Decidable b], IntOp.andi (if a then 1#1 else 0#1)
      (IntOp.xori (if b then 1#1 else 0#1) 1#1) = if a ∧ ¬ b then 1#1 else 0#1 := fun a b => by
    intro _ _
    by_cases ha : a <;> by_cases hb : b <;> simp [ha, hb, IntOp.andi, IntOp.xori]
  rw [andi_bits, hx]
  simp only [hcmp, hs]

/-- The columns left after the three drops are the sixteen of least rank. -/
theorem trim_apply (m : IVec S256x2048 1) (c : ℕ) (hc16 : 16 ≤ c) (hc : c ≤ 19) (hd : ∀ i, d (ix2 p i) = f i)
    (h : ∀ i, m (ix2 p i) = if rank (neg f) i < c then 1#1 else 0#1) (i : Fin 2048) :
    trim d m (ix2 p i) = if rank (neg f) i < 16 then 1#1 else 0#1 := by
  have hcnt := countOf_apply p f m c (by omega) h
  have h0 : ∀ i, m (ix2 p i) = if rank (neg f) i < max 16 (c - 0) then 1#1 else 0#1 := fun i => by
    rw [h i, show max 16 (c - 0) = c by omega]
  have h1 := dropRound_apply d p f m c 0 (by omega) (countOf m) 0x41800000#32 hcnt (by rw [bits_16]; norm_num) hd h0
  have h2 := dropRound_apply d p f _ c 1 (by omega) (countOf m) 0x41880000#32 hcnt (by rw [bits_17]; norm_num) hd h1
  have h3 := dropRound_apply d p f _ c 2 (by omega) (countOf m) 0x41900000#32 hcnt (by rw [bits_18]; norm_num) hd h2
  exact (h3 i).trans (by rw [show max 16 (c - (2 + 1)) = 16 by omega])

/-- The kernel's mask is of the sixteen nearest columns, for a row of finite distances with few ties. -/
theorem adj_apply (hd : ∀ i, d (ix2 p i) = f i) (hf : ∀ i, f i ≠ ⊤) (ht : FewTies f twenty_le) (i : Fin 2048) :
    adj d (ix2 p i) = if rank (neg f) i < 16 then 1#1 else 0#1 := by
  obtain ⟨c, hc16, hc, hcl⟩ := sixteen_rounds f hf twenty_le ht
  refine trim_apply d p f _ c hc16 hc hd (fun k => ?_) i
  have hm := minRound_iterate d p f hd 16 k
  pointwise [maskOf]
  rw [hm, bits_top]
  by_cases e : rank (neg f) k < c
  · rw [if_pos e, (hcl k).mpr e]; simp
  · have : (clear^[16] f) k ≠ ⊤ := fun q => e ((hcl k).mp q)
    rw [if_neg e, decide_eq_false this]; rfl

end Cert.Proof

end
-- ==== Proof.Layers.lean ====
/-
  The whole block as a function of its twelve arguments: the fusing layer, its normalisation and activation, the
  Laplacian layer, its normalisation, and their sum.
-/
module

public import proofs.«01_k».proof.Proof.Spec
public import proofs.«01_k».proof.Proof.Norm
public import proofs.«01_k».proof.Proof.Least
public import proofs.«01_k».proof.Proof.LapRounds

@[expose] public section

noncomputable section

namespace Cert.Proof

open Idealize.ShloMosaic

/-- The number of points that a normalisation averages over, as the programs write it. -/
abbrev cnt : EReal := Ideal.ofBits .f32 0x46800000#32

/-- The small number under the square root, as the programs write it. -/
abbrev eps : EReal := Ideal.ofBits .f32 0x3727C5AC#32

/-- All the values of channel `o`, one per cloud and point. -/
abbrev chan (y : Fin 8 → Fin 2048 → Fin 128 → EReal) (o : Fin 128) (q : Fin 8 × Fin 2048) : EReal := y q.1 q.2 o

/-- The block's arguments: the points and the features of both clouds, and the weights and offsets of the two layers and
    of their normalisations. -/
structure Args where
  /-- the points of the first cloud -/
  xa : Fin 8 → Fin 2048 → Fin 3 → EReal
  /-- the points of the second cloud -/
  xb : Fin 8 → Fin 512 → Fin 3 → EReal
  /-- the features of the first cloud -/
  fa : Fin 8 → Fin 64 → Fin 2048 → EReal
  /-- the features of the second cloud -/
  fb : Fin 8 → Fin 128 → Fin 512 → EReal
  /-- the fusing layer's weights -/
  wf : Fin 128 → Fin 192 → EReal
  /-- its offsets -/
  bf : Fin 128 → EReal
  /-- the first normalisation's factors -/
  g1 : Fin 128 → EReal
  /-- its offsets -/
  b1 : Fin 128 → EReal
  /-- the Laplacian layer's weights -/
  wl : Fin 128 → Fin 128 → EReal
  /-- its offsets -/
  bl : Fin 128 → EReal
  /-- the second normalisation's factors -/
  g2 : Fin 128 → EReal
  /-- its offsets -/
  b2 : Fin 128 → EReal

namespace Args

variable (A : Args)

/-- The fusing layer. -/
def fused (b : Fin 8) (n : Fin 2048) (o : Fin 128) : EReal :=
  fuseAt (A.xa b n) (A.xb b) (fun c => A.fa b c n) (fun s c => A.fb b c s) (A.wf o) (A.bf o)

/-- The fusing layer normalised and activated. -/
def feat (b : Fin 8) (n : Fin 2048) (o : Fin 128) : EReal :=
  max (normDev cnt eps (A.g1 o) (A.b1 o) (chan A.fused o) (b, n)) 0

/-- The Laplacian layer. -/
def lap (b : Fin 8) (n : Fin 2048) (o : Fin 128) : EReal :=
  lapAt (A.xa b n) (A.xa b) (A.feat b) (A.feat b n) (A.wl o) (A.bl o)

/-- The block's result. -/
def result (b : Fin 8) (n : Fin 2048) (o : Fin 128) : EReal :=
  A.feat b n o + normDev cnt eps (A.g2 o) (A.b2 o) (chan A.lap o) (b, n)

/-- What the proof asks of the arguments: the points and the normalisations' factors are real, and at no point of the
    first cloud do too many of the distances to the cloud tie. -/
structure Good : Prop where
  /-- the first cloud is real -/
  xa : ∀ b n k, ∃ r : ℝ, A.xa b n k = (r : EReal)
  /-- the second cloud is real -/
  xb : ∀ b n k, ∃ r : ℝ, A.xb b n k = (r : EReal)
  /-- the first factors are real -/
  g1 : ∀ o, ∃ r : ℝ, A.g1 o = (r : EReal)
  /-- the second factors are real -/
  g2 : ∀ o, ∃ r : ℝ, A.g2 o = (r : EReal)
  /-- few distances tie -/
  ties : ∀ b n, FewTies (fun i => dist (A.xa b i) (A.xa b n)) twenty_le

end Args

end Cert.Proof

end
-- ==== Proof.Greatest.lean ====
/-
  The kernel's three rounds of "take the greatest, at its lowest index, and put −∞ in its place", on one row of finite
  numbers: round `r` takes the index at place `r` of the order of `Cert.Proof.before`.
-/
module

public import proofs.«01_k».proof.Proof.Rank
public import proofs.«01_k».proof.Proof.Fold

@[expose] public section

noncomputable section

namespace Cert.Proof

open Idealize.ShloMosaic

variable {n : ℕ}

/-- The row before round `r`: −∞ in place of the first `r` entries of the order. -/
def taken (f : Fin n → EReal) (r : ℕ) (i : Fin n) : EReal := if rank f i < r then ⊥ else f i

/-- Nothing is taken before the first round. -/
theorem taken_zero (f : Fin n → EReal) : taken f 0 = f := funext fun i => by simp [taken]

/-- The entry at place `r` is still there before round `r`. -/
theorem taken_ord (f : Fin n → EReal) (r : Fin n) : taken f r.val (ord f r) = f (ord f r) := by
  simp [taken, rank_ord]

/-- What is left before round `r` is at most the entry at place `r`. -/
theorem taken_le (f : Fin n → EReal) (r : Fin n) (k : Fin n) : taken f r.val k ≤ f (ord f r) := by
  unfold taken
  split
  · exact bot_le
  · rename_i h
    obtain ⟨j, rfl⟩ := ord_surjective f k
    rw [rank_ord] at h
    exact ord_antitone f (not_lt.mp h)

/-- The greatest entry round `r` finds is the one at place `r`. -/
theorem rowMax_taken (f : Fin n → EReal) (r : Fin n) : rowMax (taken f r.val) = f (ord f r) := by
  rw [← taken_ord f r]
  exact rowMax_eq _ fun k => by rw [taken_ord]; exact taken_le f r k

/-- An index whose entry round `r` finds to be the greatest is no lower than the index at place `r`. -/
theorem ord_le_of_taken (f : Fin n → EReal) (hf : ∀ i, f i ≠ ⊥) (r k : Fin n) (h : taken f r.val k = f (ord f r)) :
    ord f r ≤ k := by
  unfold taken at h
  split at h
  · exact absurd h.symm (hf _)
  · rename_i hr
    rcases lt_or_ge k (ord f r) with hk | hk
    · exact absurd (by simpa [rank_ord] using (before_iff_rank f k (ord f r)).mp (Or.inr ⟨h, hk⟩)) hr
    · exact hk

/-- The lowest index of the greatest entry, as the kernel computes it: the least of the words of the indices holding the
    greatest, the others counted as `c`, a word above them all. -/
theorem lowest_word (f : Fin n → EReal) (hf : ∀ i, f i ≠ ⊥) (hn : n < 2 ^ 31) (r : Fin n) (init c : BitVec 32)
    (hinit : (n : ℤ) ≤ init.toInt) (hc : (n : ℤ) ≤ c.toInt) (g : Fin n → BitVec 32)
    (hg : ∀ k, g k = if taken f r.val k = f (ord f r) then word k else c) :
    Finset.univ.fold IntOp.minsi init g = word (ord f r) := by
  have hr : g (ord f r) = word (ord f r) := by rw [hg, if_pos (taken_ord f r)]
  rw [← hr]
  have hlt : ((ord f r).val : ℤ) < n := by exact_mod_cast (ord f r).isLt
  refine fold_minsi_eq _ _ _ (by rw [hr, word_toInt hn]; omega) fun k => ?_
  rw [hr, hg, word_toInt hn]
  split
  · rename_i h
    rw [word_toInt hn]
    exact_mod_cast ord_le_of_taken f hf r k h
  · omega

/-- Putting −∞ at place `r` is what is left before the next round. -/
theorem taken_succ (f : Fin n → EReal) (r k : Fin n) :
    (if k = ord f r then ⊥ else taken f r.val k) = taken f (r.val + 1) k := by
  unfold taken
  obtain ⟨j, rfl⟩ := ord_surjective f k
  rw [rank_ord]
  by_cases h : j = r
  · subst h; simp
  · rw [if_neg (fun e => h (ord_injective f e))]
    have : j.val ≠ r.val := fun e => h (Fin.ext e)
    by_cases h' : j.val < r.val
    · rw [if_pos h', if_pos (by omega)]
    · rw [if_neg h', if_neg (by omega)]

/-- A value put at each of the first `r` places, zero elsewhere: one more round puts one more. -/
theorem placed_succ (f : Fin n → EReal) (w : EReal → EReal) (r k : Fin n) :
    (if k = ord f r then w (f (ord f r)) else if rank f k < r.val then w (f k) else 0)
      = if rank f k < r.val + 1 then w (f k) else 0 := by
  obtain ⟨j, rfl⟩ := ord_surjective f k
  rw [rank_ord]
  by_cases h : j = r
  · subst h; simp
  · rw [if_neg (fun e => h (ord_injective f e))]
    have : j.val ≠ r.val := fun e => h (Fin.ext e)
    by_cases h' : j.val < r.val
    · rw [if_pos h', if_pos (by omega)]
    · rw [if_neg h', if_neg (by omega)]

end Cert.Proof

end
-- ==== Proof.FuseRounds.lean ====
/-
  The first kernel's three rounds over a tile of distances. One round takes each row's greatest value (`rowTop`), marks
  the lowest column that holds it (`hot`), turns the value into a weight (`weigh`), writes the weight at the marked
  column (`place`) and removes the column (`next`). The lemmas read a round at an index, in the terms of `Rank` and
  `Greatest`: with the columns of rank below `r` removed, the marked column is the one in place `r`.
-/
module

public import proofs.«01_k».proof.Proof.Gen.KernelIdeal.Skeleton
public import Idealize.ShloMosaic.Lib.Pointwise
public import proofs.«01_k».proof.Proof.Greatest
public import proofs.«01_k».proof.Proof.Spec
public import proofs.«01_k».proof.Proof.Consts

@[expose] public section

noncomputable section

namespace Cert.Proof

open Idealize.ShloMosaic Cert.KernelIdeal Cert.KernelIdeal.Gen

/-- Each row's greatest value. -/
def rowTop (d : FVec Ideal S256x512 .f32) : FVec Ideal S256x1 .f32 :=
  shapeCast S256x1 (multiReduction .maximumf [1] S256 d 0xFF800000#32 reduces_S256x512_S256 (.inl rfl) rfl)
    shapeCasts_S256_S256x1

/-- The mark of the lowest column that holds its row's greatest value. -/
def hot (d : FVec Ideal S256x512 .f32) : IVec S256x512 1 :=
  cmpi .eq (iota .tc S256x512 32 [1] iota_S256x512_d1_w32) (broadcastTo S256x512 (shapeCast S256x1
    (multiReductionI .minsi [1] S256 (select (cmpf .oeq d (broadcastTo S256x512 (rowTop d) broadcasts_S256x1_S256x512))
      (iota .tc S256x512 32 [1] iota_S256x512_d1_w32) (broadcast S256x512 512#32)) 2147483647#32
      reduces_S256x512_S256 rfl) shapeCasts_S256_S256x1) broadcasts_S256x1_S256x512)

/-- The weight of each row's greatest value. -/
def weigh (d : FVec Ideal S256x512 .f32) : FVec Ideal S256x1 .f32 :=
  divf (broadcast S256x1 (Scalar.ofBits .f32 0x3F800000#32)) (addf (rowTop d) (broadcast S256x1 (Scalar.ofBits .f32 0x322BCC77#32)))

/-- The weights so far with this round's weight at the marked column. -/
def place (d : FVec Ideal S256x512 .f32) (w : FVec Ideal S256x512 .f32) : FVec Ideal S256x512 .f32 :=
  select (hot d) (broadcastTo S256x512 (shapeCast S256x1 (weigh d) shapeCasts_S256x1_S256x1) broadcasts_S256x1_S256x512) w

/-- The distances with the marked column removed. -/
def next (d : FVec Ideal S256x512 .f32) : FVec Ideal S256x512 .f32 :=
  select (hot d) (broadcast S256x512 (Scalar.ofBits .f32 0xFF800000#32)) d

variable (d : FVec Ideal S256x512 .f32) (p : Fin 256) (f : Fin 512 → EReal)

/-- A row's greatest value. -/
theorem rowTop_apply (h : ∀ i, d (ix2 p i) = f i) : rowTop d (ix2 p 0) = rowMax f := by
  pointwise [rowTop]
  simp only [h]
  rw [bits_bot]; rfl

/-- The marked column of a row whose columns of rank below `r` are removed is the one in place `r`. -/
theorem hot_apply (hf : ∀ i, f i ≠ ⊥) (r : Fin 512) (h : ∀ i, d (ix2 p i) = taken f r.val i) (i : Fin 512) :
    hot d (ix2 p i) = if i = ord f r then 1#1 else 0#1 := by
  have ht : rowTop d (ix2 p 0) = f (ord f r) := by rw [rowTop_apply d p _ h, rowMax_taken]
  have hw := lowest_word f hf (by norm_num) r 2147483647#32 512#32 (by decide) (by decide)
    (fun k => if taken f r.val k = f (ord f r) then word k else 512#32) (fun k => rfl)
  pointwise [hot]
  rw [ht]
  simp only [h]
  rw [hw]
  exact cmpi_word (by norm_num) i (ord f r)

/-- The weight of a row whose columns of rank below `r` are removed. -/
theorem weigh_apply (r : Fin 512) (h : ∀ i, d (ix2 p i) = taken f r.val i) :
    weigh d (ix2 p 0) = wgt (f (ord f r)) := by
  have ht : rowTop d (ix2 p 0) = f (ord f r) := by rw [rowTop_apply d p _ h, rowMax_taken]
  pointwise [weigh]
  rw [ht]; rfl

/-- A round removes the column in the next place. -/
theorem next_apply (hf : ∀ i, f i ≠ ⊥) (r : Fin 512) (h : ∀ i, d (ix2 p i) = taken f r.val i) (i : Fin 512) :
    next d (ix2 p i) = taken f (r.val + 1) i := by
  have hh := hot_apply d p f hf r h i
  pointwise [next]
  rw [hh, h i, ← taken_succ, bits_bot]
  by_cases e : i = ord f r <;> simp [e, Scalar.select]

/-- A round writes the weight of the column in the next place. -/
theorem place_apply (hf : ∀ i, f i ≠ ⊥) (r : Fin 512) (h : ∀ i, d (ix2 p i) = taken f r.val i)
    (w : FVec Ideal S256x512 .f32) (hw : ∀ i, w (ix2 p i) = if rank f i < r.val then wgt (f i) else 0) (i : Fin 512) :
    place d w (ix2 p i) = if rank f i < r.val + 1 then wgt (f i) else 0 := by
  have hh := hot_apply d p f hf r h i
  have hg := weigh_apply d p f r h
  pointwise [place]
  rw [hh, hg, hw i, ← placed_succ]
  by_cases e : i = ord f r <;> simp [e, Scalar.select]

/-- No weights yet. -/
def blank : FVec Ideal S256x512 .f32 := broadcast S256x512 (Scalar.ofBits .f32 0x00000000#32)

/-- The weights the three rounds leave over their sum, times the values of the second point set: the interpolation. -/
def blend (d : FVec Ideal S256x512 .f32) (x : Vec Ideal S1x512x128 .f32) : FVec Ideal S256x128 .f32 :=
  matmul dot_S256x512_S512x128_S256x128_1_0_0_1_n_n none
    (divf (place (next (next d)) (place (next d) (place d blank)))
      (broadcastTo S256x512 (addf (addf (addf (broadcast S256x1 (Scalar.ofBits .f32 0x00000000#32)) (weigh d)) (weigh (next d)))
        (weigh (next (next d)))) broadcasts_S256x1_S256x512))
    (shapeCast S512x128 x shapeCasts_S1x512x128_S512x128 : FVec Ideal S512x128 .f32) (constant S256x128 .f32 0x00000000#32)

/-- The kernel's interpolation is `blend` of its distances. -/
theorem blend_eq (v0 : Vec Ideal S1x256x3 .f32) (v2 : Vec Ideal S1x512x3 .f32) (x : Vec Ideal S1x512x128 .f32) :
    k0_pay12 (iota .tc S256x512 32 [1] iota_S256x512_d1_w32) (k0_pay6 (F := Ideal)) (k0_pay9 v0 v2) (k0_pay10 v0 v2)
      (k0_pay11 v0 v2) x = blend (k0_pay5 v0 v2) x := rfl

/-- The kernel's interpolation at an index. -/
theorem blend_apply (hf : ∀ i, f i ≠ ⊥) (h : ∀ i, d (ix2 p i) = f i) (x : Vec Ideal S1x512x128 .f32) (c : Fin 128) :
    blend d x (ix2 p c) = interp f (fun i => x (ix3 0 i c)) := by
  have h0 : ∀ i, d (ix2 p i) = taken f (0 : Fin 512).val i := fun i => by rw [h i]; exact (congrFun (taken_zero f) i).symm
  have h1 : ∀ i, next d (ix2 p i) = taken f (1 : Fin 512).val i := next_apply d p f hf 0 h0
  have h2 : ∀ i, next (next d) (ix2 p i) = taken f (2 : Fin 512).val i := next_apply (next d) p f hf 1 h1
  have z : ∀ i, blank (ix2 p i)
      = if rank f i < (0 : Fin 512).val then wgt (f i) else 0 := fun i => by pointwise [blank]; simp
  have p1 := place_apply d p f hf 0 h0 _ z
  have p2 := place_apply (next d) p f hf 1 h1 _ p1
  have p3 := place_apply (next (next d)) p f hf 2 h2 _ p2
  have g0 := weigh_apply d p f 0 h0
  have g1 := weigh_apply (next d) p f 1 h1
  have g2 := weigh_apply (next (next d)) p f 2 h2
  pointwise [blend]
  unfold interp wsum
  rw [Fin.sum_univ_three]
  refine Finset.sum_congr rfl fun i _ => ?_
  rw [p3 i, g0, g1, g2]
  rfl

end Cert.Proof

end
-- ==== Proof.FusePay.lean ====
/-
  What the first kernel's body leaves in its three output windows, read at an index from the blocks of its six input
  windows: the fusing layer of each of the tile's rows, and the sums over the tile's rows of the layer and of its square.
-/
module

public import proofs.«01_k».proof.Proof.Gen.KernelIdeal.Frame
public import proofs.«01_k».proof.Proof.FuseRounds
public import Idealize.ShloMosaic.Lib.Pipeline.Value

@[expose] public section

set_option maxRecDepth 16384

noncomputable section

namespace Cert.Proof

open Idealize.ShloMosaic Cert.KernelIdeal Cert.KernelIdeal.Gen

/-- Offsets all zero, by rank. -/
theorem off2 : (![0, 0] : Fin 2 → ℕ) = fun _ => 0 := funext fun a => by fin_cases a <;> rfl
/-- Three offsets of zero. -/
theorem off3 : (![0, 0, 0] : Fin 3 → ℕ) = fun _ => 0 := funext fun a => by fin_cases a <;> rfl
/-- Four offsets of zero. -/
theorem off4 : (![0, 0, 0, 0] : Fin 4 → ℕ) = fun _ => 0 := funext fun a => by fin_cases a <;> rfl

variable (x0 : Vec Ideal S1x256x3 .f32) (x1 : Vec Ideal S1x512x3 .f32) (x2 : Vec Ideal S1x256x64 .f32)
  (x3 : Vec Ideal S1x512x128 .f32) (x4 : Vec Ideal S128x192 .f32) (x5 : Vec Ideal S1x128 .f32)

/-- The distances of the tile's row `p`. -/
theorem far_apply (p : Fin 256) (s : Fin 512) :
    k0_pay5 x0 x1 (ix2 p s) = dist (fun k => x0 (ix3 0 p k)) (fun k => x1 (ix3 0 s k)) := by
  pointwise [k0_pay5, dist]

/-- The layer at the tile's row `p`, output `o`. -/
def fuseRow (p : Fin 256) (o : Fin 128) : EReal :=
  fuseAt (fun k => x0 (ix3 0 p k)) (fun s k => x1 (ix3 0 s k)) (fun c => x2 (ix3 0 p c)) (fun s c => x3 (ix3 0 s c))
    (fun c => x4 (ix2 o c)) (x5 (ix2 0 o))

variable (hf : ∀ p s, dist (fun k => x0 (ix3 0 p k)) (fun k => x1 (ix3 0 s k)) ≠ ⊥)
include hf

/-- The body's layer, before its shape is changed for the store. -/
theorem fuse_lin (p : Fin 256) (o : Fin 128) :
    k0_pay1 (k0_pay13 x0 x1 x2 x3 x4 x5) x2 x4 x5 (ix2 p o) = fuseRow x0 x1 x2 x3 x4 x5 p o := by
  have hb : ∀ c, k0_pay13 x0 x1 x2 x3 x4 x5 (ix2 p c)
      = interp (fun s => dist (fun k => x0 (ix3 0 p k)) (fun k => x1 (ix3 0 s k))) (fun s => x3 (ix3 0 s c)) := fun c => by
    unfold k0_pay13
    rw [View.ld_unit_zero off3, View.ld_unit_zero off3, View.ld_unit_zero off3, blend_eq]
    exact blend_apply _ p _ (hf p) (far_apply x0 x1 p) x3 c
  pointwise [k0_pay1]
  simp only [hb]
  rfl

/-- The stored layer. -/
theorem fuse_out (p : Fin 256) (o : Fin 128) :
    out0_6 x0 x1 x2 x3 x4 x5 (ix3 0 p o) = fuseRow x0 x1 x2 x3 x4 x5 p o := by
  unfold out0_6
  rw [View.canon_unit_zero off3, View.ld_unit_zero off3, View.ld_unit_zero off2, View.ld_unit_zero off2,
    ← fuse_lin x0 x1 x2 x3 x4 x5 hf p o]
  pointwise [k0_pay2]

/-- The stored sums of the layer. -/
theorem fuse_sum (o : Fin 128) :
    out0_7 x0 x1 x2 x3 x4 x5 (ix4 0 0 0 o) = ∑ p, fuseRow x0 x1 x2 x3 x4 x5 p o := by
  unfold out0_7
  rw [View.canon_unit_zero off4, View.ld_unit_zero off3, View.ld_unit_zero off2, View.ld_unit_zero off2]
  simp only [← fuse_lin x0 x1 x2 x3 x4 x5 hf]
  pointwise [k0_pay3]

/-- The stored sums of its square. -/
theorem fuse_sumSq (o : Fin 128) :
    out0_8 x0 x1 x2 x3 x4 x5 (ix4 0 0 0 o)
      = ∑ p, fuseRow x0 x1 x2 x3 x4 x5 p o * fuseRow x0 x1 x2 x3 x4 x5 p o := by
  unfold out0_8
  rw [View.canon_unit_zero off4, View.ld_unit_zero off3, View.ld_unit_zero off2, View.ld_unit_zero off2]
  simp only [← fuse_lin x0 x1 x2 x3 x4 x5 hf]
  pointwise [k0_pay4]

end Cert.Proof

end
-- ==== Proof.FuseRegion.lean ====
/-
  The three arrays that the first kernel leaves, as functions of the six arrays it is entered with: the fusing layer of
  every point, and for each tile of 256 points the sums of the layer and of its square.
-/
module

public import proofs.«01_k».proof.Proof.FusePay
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The fusing layer of point `n` of cloud `b`, output `o`. -/
def yAt (a0 : Vec Ideal S8x2048x3 .f32) (a1 : Vec Ideal S8x512x3 .f32) (pt : Vec Ideal S8x2048x64 .f32)
    (qt : Vec Ideal S8x512x128 .f32) (w : Vec Ideal S128x192 .f32) (bf : Vec Ideal S1x128 .f32)
    (b : Fin 8) (n : Fin 2048) (o : Fin 128) : EReal :=
  fuseAt (fun k => a0 (ix3 b n k)) (fun s k => a1 (ix3 b s k)) (fun c => pt (ix3 b n c)) (fun s c => qt (ix3 b s c))
    (fun c => w (ix2 o c)) (bf (ix2 0 o))

/-- Point `p` of tile `i`. -/
abbrev tilePt (i : Fin 8) (p : Fin 256) : Fin 2048 := ⟨256 * i.val + p.val, by omega⟩

variable (V : (c : Dev nD) → (b : Ref sig .tc) → Buf (Elt Ideal) ((c : Thread nD τ).loc b)) (c : Dev nD)

/-- The layer over the arrays the kernel is entered with. -/
abbrev yOf : Fin 8 → Fin 2048 → Fin 128 → EReal :=
  yAt (V c main_arg0) (V c main_arg1) (V c main_v0) (V c main_v1) (V c main_arg4) (V c main_v2)

/-- Where each window's block lies. -/
theorem idx0 : ∀ t : Fin cfg0.N, win0_0.index t = ![(grid0.coords t 0).val, (grid0.coords t 1).val, 0]
    ∧ win0_1.index t = ![(grid0.coords t 0).val, 0, 0] ∧ win0_2.index t = ![(grid0.coords t 0).val, (grid0.coords t 1).val, 0]
    ∧ win0_3.index t = ![(grid0.coords t 0).val, 0, 0] ∧ win0_4.index t = ![0, 0] ∧ win0_5.index t = ![0, 0]
    ∧ win0_6.index t = ![(grid0.coords t 0).val, (grid0.coords t 1).val, 0]
    ∧ win0_7.index t = ![(grid0.coords t 0).val, (grid0.coords t 1).val, 0, 0]
    ∧ win0_8.index t = ![(grid0.coords t 0).val, (grid0.coords t 1).val, 0, 0] :=
  (by decide +kernel : ∀ t : Fin grid0.N, _)

/-- The cloud and the tile of a grid point. -/
theorem coords0 : ∀ t : Fin cfg0.N, (grid0.coords t 0).val < 8 ∧ (grid0.coords t 1).val < 8 :=
  (by decide +kernel : ∀ t : Fin grid0.N, _)

variable (t : Fin cfg0.N)

/-- The cloud of a grid point. -/
abbrev cloud0 : Fin 8 := ⟨(grid0.coords t 0).val, (coords0 t).1⟩
/-- The tile of a grid point. -/
abbrev tile0 : Fin 8 := ⟨(grid0.coords t 1).val, (coords0 t).2⟩

/-- Each input window's block at a grid point, read at an index. -/
theorem blk0_0 (p : Fin 256) (k : Fin 3) : (iblk0 V c 0 t : Vec Ideal S1x256x3 .f32) (ix3 0 p k)
    = (V c main_arg0 : Vec Ideal S8x2048x3 .f32) (ix3 (cloud0 t) (tilePt (tile0 t) p) k) := by
  blk_ext [iblk0, idx0 t]
/-- A cloud's second point set, whole at each of its tiles. -/
theorem blk0_1 (s : Fin 512) (k : Fin 3) : (iblk0 V c 1 t : Vec Ideal S1x512x3 .f32) (ix3 0 s k)
    = (V c main_arg1 : Vec Ideal S8x512x3 .f32) (ix3 (cloud0 t) s k) := by
  blk_ext [iblk0, idx0 t]
/-- A tile of the first features. -/
theorem blk0_2 (p : Fin 256) (k : Fin 64) : (iblk0 V c 2 t : Vec Ideal S1x256x64 .f32) (ix3 0 p k)
    = (V c main_v0 : Vec Ideal S8x2048x64 .f32) (ix3 (cloud0 t) (tilePt (tile0 t) p) k) := by
  blk_ext [iblk0, idx0 t]
/-- A cloud's second features, whole at each of its tiles. -/
theorem blk0_3 (s : Fin 512) (k : Fin 128) : (iblk0 V c 3 t : Vec Ideal S1x512x128 .f32) (ix3 0 s k)
    = (V c main_v1 : Vec Ideal S8x512x128 .f32) (ix3 (cloud0 t) s k) := by
  blk_ext [iblk0, idx0 t]
/-- The weight, whole at every step. -/
theorem blk0_4 (o : Fin 128) (k : Fin 192) : (iblk0 V c 4 t : Vec Ideal S128x192 .f32) (ix2 o k)
    = (V c main_arg4 : Vec Ideal S128x192 .f32) (ix2 o k) := by
  blk_ext [iblk0, idx0 t]
/-- The bias, whole at every step. -/
theorem blk0_5 (o : Fin 128) : (iblk0 V c 5 t : Vec Ideal S1x128 .f32) (ix2 0 o)
    = (V c main_v2 : Vec Ideal S1x128 .f32) (ix2 0 o) := by
  blk_ext [iblk0, idx0 t]

/-- The layer of a tile's row is the layer of its point. -/
theorem fuseRow_eq (p : Fin 256) (o : Fin 128) :
    fuseRow (iblk0 V c 0 t) (iblk0 V c 1 t) (iblk0 V c 2 t) (iblk0 V c 3 t) (iblk0 V c 4 t) (iblk0 V c 5 t) p o
      = yOf V c (cloud0 t) (tilePt (tile0 t) p) o := by
  unfold fuseRow yOf yAt
  simp only [blk0_0 V c t, blk0_1 V c t, blk0_2 V c t, blk0_3 V c t, blk0_4 V c t, blk0_5 V c t]

variable (hf : ∀ b n s, dist (fun k => (V c main_arg0 : Vec Ideal S8x2048x3 .f32) (ix3 b n k))
  (fun k => (V c main_arg1 : Vec Ideal S8x512x3 .f32) (ix3 b s k)) ≠ ⊥)
include hf

/-- No distance of a tile is −∞. -/
theorem far_ne_bot (p : Fin 256) (s : Fin 512) : dist (fun k => (iblk0 V c 0 t : Vec Ideal S1x256x3 .f32) (ix3 0 p k))
    (fun k => (iblk0 V c 1 t : Vec Ideal S1x512x3 .f32) (ix3 0 s k)) ≠ ⊥ := by
  simp only [blk0_0 V c t, blk0_1 V c t]
  exact hf _ _ _

/-- The first array: the layer. -/
theorem y_final : (dat0 V c).arrAt 6 cfg0.N
    = ((fun i => yOf V c (i 0) (i 1) (i 2)) : Vec Ideal S8x2048x128 .f32) := by
  refine (dat0 V c).arrAt_eq_of_covers 6 _ (by decide +kernel) fun t _ y => ?_
  blk_simp
  rw [after0_6]
  obtain ⟨z, p, o, rfl⟩ : ∃ (z : Fin 1) (p : Fin 256) (o : Fin 128), y = ix3 z p o := ⟨y 0, y 1, y 2, by blk_ext⟩
  obtain rfl : z = 0 := Subsingleton.elim _ _
  refine (fuse_out _ _ _ _ _ _ (far_ne_bot V c t hf) p o).trans ((fuseRow_eq V c t p o).trans ?_)
  have he : (win0_6.blk t).view.emb (ix3 0 p o) = ix3 (cloud0 t) (tilePt (tile0 t) p) o := by blk_ext [idx0 t]
  rw [he]
  rfl

/-- The second array: the sums of the layer over each tile. -/
theorem ySum_final : (dat0 V c).arrAt 7 cfg0.N
    = ((fun i => ∑ p, yOf V c (i 0) (tilePt (i 1) p) (i 3)) : Vec Ideal S8x8x1x128 .f32) := by
  refine (dat0 V c).arrAt_eq_of_covers 7 _ (by decide +kernel) fun t _ y => ?_
  blk_simp
  rw [after0_7]
  obtain ⟨o, rfl⟩ : ∃ (o : Fin 128), y = ix4 0 0 0 o := ⟨y 3, by blk_ext⟩
  refine (fuse_sum _ _ _ _ _ _ (far_ne_bot V c t hf) o).trans ((Finset.sum_congr rfl fun p _ => fuseRow_eq V c t p o).trans ?_)
  have he : (win0_7.blk t).view.emb (ix4 0 0 0 o) = ix4 (cloud0 t) (tile0 t) 0 o := by blk_ext [idx0 t]
  rw [he]
  rfl

/-- The third array: the sums of its square. -/
theorem ySq_final : (dat0 V c).arrAt 8 cfg0.N
    = ((fun i => ∑ p, yOf V c (i 0) (tilePt (i 1) p) (i 3) * yOf V c (i 0) (tilePt (i 1) p) (i 3))
      : Vec Ideal S8x8x1x128 .f32) := by
  refine (dat0 V c).arrAt_eq_of_covers 8 _ (by decide +kernel) fun t _ y => ?_
  blk_simp
  rw [after0_8]
  obtain ⟨o, rfl⟩ : ∃ (o : Fin 128), y = ix4 0 0 0 o := ⟨y 3, by blk_ext⟩
  refine (fuse_sumSq _ _ _ _ _ _ (far_ne_bot V c t hf) o).trans
    ((Finset.sum_congr rfl fun p _ => by rw [fuseRow_eq V c t p o]).trans ?_)
  have he : (win0_8.blk t).view.emb (ix4 0 0 0 o) = ix4 (cloud0 t) (tile0 t) 0 o := by blk_ext [idx0 t]
  rw [he]
  rfl

end Cert.Proof

end
-- ==== Proof.KernelHost.lean ====
/-
  What the kernel program's host operations leave: the transposed and reshaped arguments before the first kernel, and
  the scale and the shift of each normalisation, read off the per-tile sums, before the second and the third.
-/
module

public import proofs.«01_k».proof.Proof.Sums
public import proofs.«01_k».proof.Proof.Layers
public import proofs.«01_k».proof.Proof.FuseRegion
public import Idealize.ShloMosaic.Lib.StableHlo.Run

@[expose] public section

set_option maxRecDepth 16384

noncomputable section

namespace Cert.Proof

open Idealize.ShloMosaic Idealize.ShloMosaic.TcCoe Idealize.SL.Sem Cert.KernelIdeal Cert.KernelIdeal.Gen

variable (V : Valuation τ sig (Elt Ideal))

/-- The features of the first cloud, point by point. -/
theorem host_v0 (b : Fin 8) (n : Fin 2048) (k : Fin 64) :
    StableHlo.after hostOps0 V (main_v0 : DevRef τ sig) (ix3 b n k) = V (main_arg2 : DevRef τ sig) (ix3 b k n) := by
  after_results
  pointwise

/-- The features of the second cloud, point by point. -/
theorem host_v1 (b : Fin 8) (n : Fin 512) (k : Fin 128) :
    StableHlo.after hostOps0 V (main_v1 : DevRef τ sig) (ix3 b n k) = V (main_arg3 : DevRef τ sig) (ix3 b k n) := by
  after_results
  pointwise

/-- The fusing layer's offsets as one row. -/
theorem host_v2 (o : Fin 128) :
    StableHlo.after hostOps0 V (main_v2 : DevRef τ sig) (ix2 0 o) = V (main_arg5 : DevRef τ sig) (ix1 o) := by
  after_results
  pointwise

/-- The per-tile sums of `f` over an array of tiles. -/
abbrev tileSums (f : Fin 8 → Fin 2048 → Fin 128 → EReal) : FVec Ideal S8x8x1x128 .f32 :=
  fun i => ∑ r : Fin 256, f (i 0) (tilePt (i 1) r) (i 3)

/-- The host's sum of the per-tile sums is the sum over all points. -/
theorem sum_tileSums (f : Fin 8 → Fin 2048 → Fin 128 → EReal) (o : Fin 128) :
    Host.reduceAdd (tileSums f) (constant (F := Ideal) S_ .f32 0x00000000#32) reducesTo_S8x8x1x128_S128_d0_1_2 h_S_ (ix1 o)
      = ∑ q, chan f o q := by
  refine (reduce_012 _ _ _ _ o).trans ?_
  have h0 : (constant (F := Ideal) S_ .f32 0x00000000#32 (Shape.Idx.first h_S_) : EReal) = 0 := Ideal.ofBits_zero .f32
  rw [h0, zero_add]
  exact sum_tiles fun b n => f b n o

variable (y : Fin 8 → Fin 2048 → Fin 128 → EReal)

/-- The first normalisation's scale. -/
theorem host_v16 (h1 : V (main_v3_1 : DevRef τ sig) = tileSums y)
    (h2 : V (main_v3_2 : DevRef τ sig) = tileSums fun b n o => y b n o * y b n o) (o : Fin 128) :
    StableHlo.after hostOps1 V (main_v16 : DevRef τ sig) (ix2 0 o)
      = scaleSq cnt eps (V (main_arg6 : DevRef τ sig) (ix1 o)) (chan y o) := by
  have e1 := sum_tileSums y o
  have e2 := sum_tileSums (fun b n o => y b n o * y b n o) o
  after_results
  rw [h1, h2]
  generalize Host.reduceAdd (u := S_) (t := S128) (tileSums y) _ _ _ = s1 at e1 ⊢
  generalize Host.reduceAdd (u := S_) (t := S128) (tileSums fun b n o => y b n o * y b n o) _ _ _ = s2 at e2 ⊢
  pointwise
  rw [e1, e2]
  rfl

/-- The first normalisation's shift. -/
theorem host_v19 (h1 : V (main_v3_1 : DevRef τ sig) = tileSums y)
    (h2 : V (main_v3_2 : DevRef τ sig) = tileSums fun b n o => y b n o * y b n o) (o : Fin 128) :
    StableHlo.after hostOps1 V (main_v19 : DevRef τ sig) (ix2 0 o)
      = shiftSq cnt eps (V (main_arg6 : DevRef τ sig) (ix1 o)) (V (main_arg7 : DevRef τ sig) (ix1 o)) (chan y o) := by
  have e1 := sum_tileSums y o
  have e2 := sum_tileSums (fun b n o => y b n o * y b n o) o
  after_results
  rw [h1, h2]
  generalize Host.reduceAdd (u := S_) (t := S128) (tileSums y) _ _ _ = s1 at e1 ⊢
  generalize Host.reduceAdd (u := S_) (t := S128) (tileSums fun b n o => y b n o * y b n o) _ _ _ = s2 at e2 ⊢
  pointwise
  rw [e1, e2]
  rfl

/-- The Laplacian layer's offsets as one row. -/
theorem host_v20 (o : Fin 128) :
    StableHlo.after hostOps1 V (main_v20 : DevRef τ sig) (ix2 0 o) = V (main_arg9 : DevRef τ sig) (ix1 o) := by
  after_results
  pointwise

/-- The second normalisation's scale. -/
theorem host_v34 (h1 : V (main_v21_1 : DevRef τ sig) = tileSums y)
    (h2 : V (main_v21_2 : DevRef τ sig) = tileSums fun b n o => y b n o * y b n o) (o : Fin 128) :
    StableHlo.after hostOps2 V (main_v34 : DevRef τ sig) (ix2 0 o)
      = scaleSq cnt eps (V (main_arg10 : DevRef τ sig) (ix1 o)) (chan y o) := by
  have e1 := sum_tileSums y o
  have e2 := sum_tileSums (fun b n o => y b n o * y b n o) o
  after_results
  rw [h1, h2]
  generalize Host.reduceAdd (u := S_) (t := S128) (tileSums y) _ _ _ = s1 at e1 ⊢
  generalize Host.reduceAdd (u := S_) (t := S128) (tileSums fun b n o => y b n o * y b n o) _ _ _ = s2 at e2 ⊢
  pointwise
  rw [e1, e2]
  rfl

/-- The second normalisation's shift. -/
theorem host_v37 (h1 : V (main_v21_1 : DevRef τ sig) = tileSums y)
    (h2 : V (main_v21_2 : DevRef τ sig) = tileSums fun b n o => y b n o * y b n o) (o : Fin 128) :
    StableHlo.after hostOps2 V (main_v37 : DevRef τ sig) (ix2 0 o)
      = shiftSq cnt eps (V (main_arg10 : DevRef τ sig) (ix1 o)) (V (main_arg11 : DevRef τ sig) (ix1 o)) (chan y o) := by
  have e1 := sum_tileSums y o
  have e2 := sum_tileSums (fun b n o => y b n o * y b n o) o
  after_results
  rw [h1, h2]
  generalize Host.reduceAdd (u := S_) (t := S128) (tileSums y) _ _ _ = s1 at e1 ⊢
  generalize Host.reduceAdd (u := S_) (t := S128) (tileSums fun b n o => y b n o * y b n o) _ _ _ = s2 at e2 ⊢
  pointwise
  rw [e1, e2]
  rfl

end Cert.Proof
-- ==== Proof.LapPay.lean ====
/-
  What the second kernel's body leaves in its three output windows, read at an index from the blocks of its eight input
  windows: the layer over the sixteen nearest points for each of the tile's rows, and the sums over the tile's rows of
  the layer and of its square; and what the third kernel's body leaves in its one.
-/
module

public import proofs.«01_k».proof.Proof.FusePay
public import proofs.«01_k».proof.Proof.LapRounds
public import proofs.«01_k».proof.Proof.Spec

@[expose] public section

set_option maxRecDepth 16384

noncomputable section

namespace Cert.Proof

open Idealize.ShloMosaic Cert.KernelIdeal Cert.KernelIdeal.Gen

variable (x0 : Vec Ideal S1x256x3 .f32) (x1 : Vec Ideal S1x2048x3 .f32) (x2 : Vec Ideal S1x2048x128 .f32)
  (x3 : Vec Ideal S1x256x128 .f32) (x4 x5 : Vec Ideal S1x128 .f32) (x6 : Vec Ideal S128x128 .f32) (x7 : Vec Ideal S1x128 .f32)

/-- A load of a whole block is the block. -/
theorem ld_row3 (x : Vec Ideal S1x256x3 .f32) : View.ld x r1_2 = x := View.ld_unit_zero off3 _ x
/-- A cloud's points, loaded whole. -/
theorem ld_all3 (x : Vec Ideal S1x2048x3 .f32) : View.ld x r1_3 = x := View.ld_unit_zero off3 _ x
/-- A cloud's rows, loaded whole. -/
theorem ld_all (x : Vec Ideal S1x2048x128 .f32) : View.ld x r1_0 = x := View.ld_unit_zero off3 _ x
/-- A tile's rows, loaded whole. -/
theorem ld_row (x : Vec Ideal S1x256x128 .f32) : View.ld x r1_4 = x := View.ld_unit_zero off3 _ x
/-- A row of channels, loaded whole. -/
theorem ld_one (x : Vec Ideal S1x128 .f32) : View.ld x r1_1 = x := View.ld_unit_zero off2 _ x
/-- The layer's weight, loaded whole. -/
theorem ld_sq (x : Vec Ideal S128x128 .f32) : View.ld x r1_5 = x := View.ld_unit_zero off2 _ x

/-- The distances of the tile's row `p`. -/
theorem near_apply (p : Fin 256) (i : Fin 2048) :
    k1_pay6 x0 x1 (ix2 p i) = dist (fun k => x1 (ix3 0 i k)) (fun k => x0 (ix3 0 p k)) := by
  pointwise [k1_pay6, dist]
  simp only [mul_comm]

/-- The activation of a value by the tile's scale and shift. -/
def act (sc sh y : EReal) : EReal := max (y * sc + sh) 0

/-- The layer at the tile's row `p`, output `o`. -/
def lapRow (p : Fin 256) (o : Fin 128) : EReal :=
  lapAt (fun k => x0 (ix3 0 p k)) (fun i k => x1 (ix3 0 i k))
    (fun i c => act (x4 (ix2 0 c)) (x5 (ix2 0 c)) (x2 (ix3 0 i c))) (fun c => act (x4 (ix2 0 c)) (x5 (ix2 0 c)) (x3 (ix3 0 p c)))
    (fun c => x6 (ix2 o c)) (x7 (ix2 0 o))

variable (hf : ∀ p i, dist (fun k => x1 (ix3 0 i k)) (fun k => x0 (ix3 0 p k)) ≠ ⊤)
  (ht : ∀ p, FewTies (fun i => dist (fun k => x1 (ix3 0 i k)) (fun k => x0 (ix3 0 p k))) twenty_le)
include hf ht

/-- The body's layer, before its shape is changed for the store. -/
theorem lap_lin (p : Fin 256) (o : Fin 128) :
    maximumf (k1_pay21 x0 x1 x2 x3 x4 x5 x6 x7) (k1_pay22 x0 x1 x2 x3 x4 x5 x6 x7) (ix2 p o)
      = lapRow x0 x1 x2 x3 x4 x5 x6 x7 p o := by
  have ha : ∀ i, ones (adj (k1_pay6 x0 x1)) (ix2 p i)
      = if rank (neg fun i => dist (fun k => x1 (ix3 0 i k)) (fun k => x0 (ix3 0 p k))) i < 16 then 1 else 0 := fun i =>
    ones_apply p _ i _ (adj_apply _ p _ (near_apply x0 x1 p) (hf p) (ht p) i)
  have e : k1_pay21 x0 x1 x2 x3 x4 x5 x6 x7 = lapLin (k1_pay5 x2 x4 x5) (adj (k1_pay6 x0 x1)) x3 x4 x5 x6 x7 := by
    unfold k1_pay21 k1_pay20 k1_pay19 k1_pay18 k1_pay17
    rw [ld_row3, ld_all3, ld_all, ld_row, ld_one x4, ld_one x5, ld_one x7, ld_sq, rounds_eq]
    exact lapLin_eq _ (k1_pay6 x0 x1) (minRound^[16] (k1_pay6 x0 x1)) x3 x4 x5 x6 x7
  rw [e]
  generalize adj (k1_pay6 x0 x1) = m at ha ⊢
  pointwise [lapLin, k1_pay22, k1_pay16, k1_pay5]
  simp only [ha, ite_mul, one_mul, zero_mul]
  rfl

/-- The stored layer. -/
theorem lap_out (p : Fin 256) (o : Fin 128) :
    out1_8 x0 x1 x2 x3 x4 x5 x6 x7 (ix3 0 p o) = lapRow x0 x1 x2 x3 x4 x5 x6 x7 p o := by
  unfold out1_8
  rw [View.canon_unit_zero off3, ← lap_lin x0 x1 x2 x3 x4 x5 x6 x7 hf ht p o]
  pointwise [k1_pay2, k1_pay1]

/-- The stored sums of the layer. -/
theorem lap_sum (o : Fin 128) :
    out1_9 x0 x1 x2 x3 x4 x5 x6 x7 (ix4 0 0 0 o) = ∑ p, lapRow x0 x1 x2 x3 x4 x5 x6 x7 p o := by
  unfold out1_9
  rw [View.canon_unit_zero off4]
  simp only [← lap_lin x0 x1 x2 x3 x4 x5 x6 x7 hf ht]
  pointwise [k1_pay3, k1_pay1]

/-- The stored sums of its square. -/
theorem lap_sumSq (o : Fin 128) :
    out1_10 x0 x1 x2 x3 x4 x5 x6 x7 (ix4 0 0 0 o)
      = ∑ p, lapRow x0 x1 x2 x3 x4 x5 x6 x7 p o * lapRow x0 x1 x2 x3 x4 x5 x6 x7 p o := by
  unfold out1_10
  rw [View.canon_unit_zero off4]
  simp only [← lap_lin x0 x1 x2 x3 x4 x5 x6 x7 hf ht]
  pointwise [k1_pay4, k1_pay1]

omit hf ht

/-- The result from both layers and their scales and shifts. -/
def outVal (sc1 sh1 sc2 sh2 y h : EReal) : EReal := act sc1 sh1 y + (h * sc2 + sh2)

/-- The third kernel's stored result: the activation plus the second layer scaled and shifted, transposed. -/
theorem out_out (y h : Vec Ideal S1x256x128 .f32) (sc1 sh1 sc2 sh2 : Vec Ideal S1x128 .f32) (p : Fin 256) (o : Fin 128) :
    out2_6 y h sc1 sh1 sc2 sh2 (ix3 0 o p)
      = outVal (sc1 (ix2 0 o)) (sh1 (ix2 0 o)) (sc2 (ix2 0 o)) (sh2 (ix2 0 o)) (y (ix3 0 p o)) (h (ix3 0 p o)) := by
  unfold out2_6
  rw [View.canon_unit_zero off3]
  rw [show View.ld y r2_0 = y from ld_row y, show View.ld h r2_0 = h from ld_row h]
  rw [show ∀ v : Vec Ideal S1x128 .f32, View.ld v r2_1 = v from ld_one]
  pointwise [k2_pay1, outVal, act]
  rw [add_assoc]

end Cert.Proof

end
-- ==== Proof.LapRegion.lean ====
/-
  The three arrays that the second kernel leaves, as functions of the arrays it is entered with: the layer over the
  sixteen nearest points, and for each tile of 256 points the sums of the layer and of its square.
-/
module

public import proofs.«01_k».proof.Proof.LapPay
public import proofs.«01_k».proof.Proof.FuseRegion

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The second layer of point `n` of cloud `b`, output `o`, from the first layer `y` and its scale and shift. -/
def hAt (a0 : Vec Ideal S8x2048x3 .f32) (y : Vec Ideal S8x2048x128 .f32) (sc sh : Vec Ideal S1x128 .f32)
    (w : Vec Ideal S128x128 .f32) (bl : Vec Ideal S1x128 .f32) (b : Fin 8) (n : Fin 2048) (o : Fin 128) : EReal :=
  lapAt (fun k => a0 (ix3 b n k)) (fun i k => a0 (ix3 b i k))
    (fun i c => act (sc (ix2 0 c)) (sh (ix2 0 c)) (y (ix3 b i c))) (fun c => act (sc (ix2 0 c)) (sh (ix2 0 c)) (y (ix3 b n c)))
    (fun c => w (ix2 o c)) (bl (ix2 0 o))

variable (V : (c : Dev nD) → (b : Ref sig .tc) → Buf (Elt Ideal) ((c : Thread nD τ).loc b)) (c : Dev nD)

/-- The layer over the arrays the kernel is entered with. -/
abbrev hOf : Fin 8 → Fin 2048 → Fin 128 → EReal :=
  hAt (V c main_arg0) (V c main_v3_0) (V c main_v16) (V c main_v19) (V c main_arg8) (V c main_v20)

/-- Where each window's block lies. -/
theorem idx1 : ∀ t : Fin cfg1.N, win1_0.index t = ![(grid1.coords t 0).val, (grid1.coords t 1).val, 0]
    ∧ win1_1.index t = ![(grid1.coords t 0).val, 0, 0] ∧ win1_2.index t = ![(grid1.coords t 0).val, 0, 0]
    ∧ win1_3.index t = ![(grid1.coords t 0).val, (grid1.coords t 1).val, 0] ∧ win1_4.index t = ![0, 0]
    ∧ win1_5.index t = ![0, 0] ∧ win1_6.index t = ![0, 0] ∧ win1_7.index t = ![0, 0]
    ∧ win1_8.index t = ![(grid1.coords t 0).val, (grid1.coords t 1).val, 0]
    ∧ win1_9.index t = ![(grid1.coords t 0).val, (grid1.coords t 1).val, 0, 0]
    ∧ win1_10.index t = ![(grid1.coords t 0).val, (grid1.coords t 1).val, 0, 0] :=
  (by decide +kernel : ∀ t : Fin grid1.N, _)

/-- The cloud and the tile of a grid point. -/
theorem coords1 : ∀ t : Fin cfg1.N, (grid1.coords t 0).val < 8 ∧ (grid1.coords t 1).val < 8 :=
  (by decide +kernel : ∀ t : Fin grid1.N, _)

variable (t : Fin cfg1.N)

/-- The cloud of a grid point. -/
abbrev cloud1 : Fin 8 := ⟨(grid1.coords t 0).val, (coords1 t).1⟩
/-- The tile of a grid point. -/
abbrev tile1 : Fin 8 := ⟨(grid1.coords t 1).val, (coords1 t).2⟩

/-- Each input window's block at a grid point, read at an index. -/
theorem blk1_0 (p : Fin 256) (k : Fin 3) : (iblk1 V c 0 t : Vec Ideal S1x256x3 .f32) (ix3 0 p k)
    = (V c main_arg0 : Vec Ideal S8x2048x3 .f32) (ix3 (cloud1 t) (tilePt (tile1 t) p) k) := by
  blk_ext [iblk1, idx1 t]
/-- A cloud's points, whole at each of its tiles. -/
theorem blk1_1 (s : Fin 2048) (k : Fin 3) : (iblk1 V c 1 t : Vec Ideal S1x2048x3 .f32) (ix3 0 s k)
    = (V c main_arg0 : Vec Ideal S8x2048x3 .f32) (ix3 (cloud1 t) s k) := by
  blk_ext [iblk1, idx1 t]
/-- A cloud's rows, whole at each of its tiles. -/
theorem blk1_2 (s : Fin 2048) (k : Fin 128) : (iblk1 V c 2 t : Vec Ideal S1x2048x128 .f32) (ix3 0 s k)
    = (V c main_v3_0 : Vec Ideal S8x2048x128 .f32) (ix3 (cloud1 t) s k) := by
  blk_ext [iblk1, idx1 t]
/-- A tile of the rows. -/
theorem blk1_3 (p : Fin 256) (k : Fin 128) : (iblk1 V c 3 t : Vec Ideal S1x256x128 .f32) (ix3 0 p k)
    = (V c main_v3_0 : Vec Ideal S8x2048x128 .f32) (ix3 (cloud1 t) (tilePt (tile1 t) p) k) := by
  blk_ext [iblk1, idx1 t]
/-- The scale, whole at every step. -/
theorem blk1_4 (o : Fin 128) : (iblk1 V c 4 t : Vec Ideal S1x128 .f32) (ix2 0 o)
    = (V c main_v16 : Vec Ideal S1x128 .f32) (ix2 0 o) := by
  blk_ext [iblk1, idx1 t]
/-- The shift, whole at every step. -/
theorem blk1_5 (o : Fin 128) : (iblk1 V c 5 t : Vec Ideal S1x128 .f32) (ix2 0 o)
    = (V c main_v19 : Vec Ideal S1x128 .f32) (ix2 0 o) := by
  blk_ext [iblk1, idx1 t]
/-- The weight, whole at every step. -/
theorem blk1_6 (o k : Fin 128) : (iblk1 V c 6 t : Vec Ideal S128x128 .f32) (ix2 o k)
    = (V c main_arg8 : Vec Ideal S128x128 .f32) (ix2 o k) := by
  blk_ext [iblk1, idx1 t]
/-- The bias, whole at every step. -/
theorem blk1_7 (o : Fin 128) : (iblk1 V c 7 t : Vec Ideal S1x128 .f32) (ix2 0 o)
    = (V c main_v20 : Vec Ideal S1x128 .f32) (ix2 0 o) := by
  blk_ext [iblk1, idx1 t]

/-- The layer of a tile's row is the layer of its point. -/
theorem lapRow_eq (p : Fin 256) (o : Fin 128) :
    lapRow (iblk1 V c 0 t) (iblk1 V c 1 t) (iblk1 V c 2 t) (iblk1 V c 3 t) (iblk1 V c 4 t) (iblk1 V c 5 t) (iblk1 V c 6 t)
      (iblk1 V c 7 t) p o = hOf V c (cloud1 t) (tilePt (tile1 t) p) o := by
  unfold lapRow hOf hAt
  simp only [blk1_0 V c t, blk1_1 V c t, blk1_2 V c t, blk1_3 V c t, blk1_4 V c t, blk1_5 V c t, blk1_6 V c t, blk1_7 V c t]

variable (hf : ∀ b j i, dist (fun k => (V c main_arg0 : Vec Ideal S8x2048x3 .f32) (ix3 b i k))
    (fun k => (V c main_arg0 : Vec Ideal S8x2048x3 .f32) (ix3 b j k)) ≠ ⊤)
  (ht : ∀ b j, FewTies (fun i => dist (fun k => (V c main_arg0 : Vec Ideal S8x2048x3 .f32) (ix3 b i k))
    (fun k => (V c main_arg0 : Vec Ideal S8x2048x3 .f32) (ix3 b j k))) twenty_le)

include hf in
/-- No distance of a tile is +∞. -/
theorem near_ne_top (p : Fin 256) (i : Fin 2048) : dist (fun k => (iblk1 V c 1 t : Vec Ideal S1x2048x3 .f32) (ix3 0 i k))
    (fun k => (iblk1 V c 0 t : Vec Ideal S1x256x3 .f32) (ix3 0 p k)) ≠ ⊤ := by
  simp only [blk1_0 V c t, blk1_1 V c t]
  exact hf _ _ _

include ht in
/-- The distances of a tile's row have few ties. -/
theorem near_ties (p : Fin 256) : FewTies (fun i => dist (fun k => (iblk1 V c 1 t : Vec Ideal S1x2048x3 .f32) (ix3 0 i k))
    (fun k => (iblk1 V c 0 t : Vec Ideal S1x256x3 .f32) (ix3 0 p k))) twenty_le := by
  simp only [blk1_0 V c t, blk1_1 V c t]
  exact ht _ _

include hf ht

/-- The first array: the layer. -/
theorem h_final : (dat1 V c).arrAt 8 cfg1.N
    = ((fun i => hOf V c (i 0) (i 1) (i 2)) : Vec Ideal S8x2048x128 .f32) := by
  refine (dat1 V c).arrAt_eq_of_covers 8 _ (by decide +kernel) fun t _ y => ?_
  blk_simp
  rw [after1_8]
  obtain ⟨z, p, o, rfl⟩ : ∃ (z : Fin 1) (p : Fin 256) (o : Fin 128), y = ix3 z p o := ⟨y 0, y 1, y 2, by blk_ext⟩
  obtain rfl : z = 0 := Subsingleton.elim _ _
  refine (lap_out _ _ _ _ _ _ _ _ (near_ne_top V c t hf) (near_ties V c t ht) p o).trans ((lapRow_eq V c t p o).trans ?_)
  have he : (win1_8.blk t).view.emb (ix3 0 p o) = ix3 (cloud1 t) (tilePt (tile1 t) p) o := by blk_ext [idx1 t]
  rw [he]
  rfl

/-- The second array: the sums of the layer over each tile. -/
theorem hSum_final : (dat1 V c).arrAt 9 cfg1.N
    = ((fun i => ∑ p, hOf V c (i 0) (tilePt (i 1) p) (i 3)) : Vec Ideal S8x8x1x128 .f32) := by
  refine (dat1 V c).arrAt_eq_of_covers 9 _ (by decide +kernel) fun t _ y => ?_
  blk_simp
  rw [after1_9]
  obtain ⟨o, rfl⟩ : ∃ (o : Fin 128), y = ix4 0 0 0 o := ⟨y 3, by blk_ext⟩
  refine (lap_sum _ _ _ _ _ _ _ _ (near_ne_top V c t hf) (near_ties V c t ht) o).trans
    ((Finset.sum_congr rfl fun p _ => lapRow_eq V c t p o).trans ?_)
  have he : (win1_9.blk t).view.emb (ix4 0 0 0 o) = ix4 (cloud1 t) (tile1 t) 0 o := by blk_ext [idx1 t]
  rw [he]
  rfl

/-- The third array: the sums of its square. -/
theorem hSq_final : (dat1 V c).arrAt 10 cfg1.N
    = ((fun i => ∑ p, hOf V c (i 0) (tilePt (i 1) p) (i 3) * hOf V c (i 0) (tilePt (i 1) p) (i 3))
      : Vec Ideal S8x8x1x128 .f32) := by
  refine (dat1 V c).arrAt_eq_of_covers 10 _ (by decide +kernel) fun t _ y => ?_
  blk_simp
  rw [after1_10]
  obtain ⟨o, rfl⟩ : ∃ (o : Fin 128), y = ix4 0 0 0 o := ⟨y 3, by blk_ext⟩
  refine (lap_sumSq _ _ _ _ _ _ _ _ (near_ne_top V c t hf) (near_ties V c t ht) o).trans
    ((Finset.sum_congr rfl fun p _ => by rw [lapRow_eq V c t p o]).trans ?_)
  have he : (win1_10.blk t).view.emb (ix4 0 0 0 o) = ix4 (cloud1 t) (tile1 t) 0 o := by blk_ext [idx1 t]
  rw [he]
  rfl

end Cert.Proof

end
-- ==== Proof.OutRegion.lean ====
/-
  The array that the third kernel leaves: the activation of the first layer plus the second layer scaled and shifted,
  with the outputs before the points.
-/
module

public import proofs.«01_k».proof.Proof.LapPay
public import proofs.«01_k».proof.Proof.FuseRegion

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat)

/-- The result at point `n` of cloud `b`, output `o`, from both layers and their scales and shifts. -/
def oAt (y h : Vec Ideal S8x2048x128 .f32) (sc1 sh1 sc2 sh2 : Vec Ideal S1x128 .f32) (b : Fin 8) (n : Fin 2048)
    (o : Fin 128) : EReal :=
  outVal (sc1 (ix2 0 o)) (sh1 (ix2 0 o)) (sc2 (ix2 0 o)) (sh2 (ix2 0 o)) (y (ix3 b n o)) (h (ix3 b n o))

variable (V : (c : Dev nD) → (b : Ref sig .tc) → Buf (Elt Ideal) ((c : Thread nD τ).loc b)) (c : Dev nD)

/-- The result over the arrays the kernel is entered with. -/
abbrev oOf : Fin 8 → Fin 2048 → Fin 128 → EReal :=
  oAt (V c main_v3_0) (V c main_v21_0) (V c main_v16) (V c main_v19) (V c main_v34) (V c main_v37)

/-- Where each window's block lies. -/
theorem idx2 : ∀ t : Fin cfg2.N, win2_0.index t = ![(grid2.coords t 0).val, (grid2.coords t 1).val, 0]
    ∧ win2_1.index t = ![(grid2.coords t 0).val, (grid2.coords t 1).val, 0] ∧ win2_2.index t = ![0, 0]
    ∧ win2_3.index t = ![0, 0] ∧ win2_4.index t = ![0, 0] ∧ win2_5.index t = ![0, 0]
    ∧ win2_6.index t = ![(grid2.coords t 0).val, 0, (grid2.coords t 1).val] :=
  (by decide +kernel : ∀ t : Fin grid2.N, _)

/-- The cloud and the tile of a grid point. -/
theorem coords2 : ∀ t : Fin cfg2.N, (grid2.coords t 0).val < 8 ∧ (grid2.coords t 1).val < 8 :=
  (by decide +kernel : ∀ t : Fin grid2.N, _)

variable (t : Fin cfg2.N)

/-- The cloud of a grid point. -/
abbrev cloud2 : Fin 8 := ⟨(grid2.coords t 0).val, (coords2 t).1⟩
/-- The tile of a grid point. -/
abbrev tile2 : Fin 8 := ⟨(grid2.coords t 1).val, (coords2 t).2⟩

/-- Each input window's block at a grid point, read at an index. -/
theorem blk2_0 (p : Fin 256) (k : Fin 128) : (iblk2 V c 0 t : Vec Ideal S1x256x128 .f32) (ix3 0 p k)
    = (V c main_v3_0 : Vec Ideal S8x2048x128 .f32) (ix3 (cloud2 t) (tilePt (tile2 t) p) k) := by
  blk_ext [iblk2, idx2 t]
/-- A tile of the layer's output. -/
theorem blk2_1 (p : Fin 256) (k : Fin 128) : (iblk2 V c 1 t : Vec Ideal S1x256x128 .f32) (ix3 0 p k)
    = (V c main_v21_0 : Vec Ideal S8x2048x128 .f32) (ix3 (cloud2 t) (tilePt (tile2 t) p) k) := by
  blk_ext [iblk2, idx2 t]
/-- The first scale, whole at every step. -/
theorem blk2_2 (o : Fin 128) : (iblk2 V c 2 t : Vec Ideal S1x128 .f32) (ix2 0 o)
    = (V c main_v16 : Vec Ideal S1x128 .f32) (ix2 0 o) := by
  blk_ext [iblk2, idx2 t]
/-- The first shift, whole at every step. -/
theorem blk2_3 (o : Fin 128) : (iblk2 V c 3 t : Vec Ideal S1x128 .f32) (ix2 0 o)
    = (V c main_v19 : Vec Ideal S1x128 .f32) (ix2 0 o) := by
  blk_ext [iblk2, idx2 t]
/-- The second scale, whole at every step. -/
theorem blk2_4 (o : Fin 128) : (iblk2 V c 4 t : Vec Ideal S1x128 .f32) (ix2 0 o)
    = (V c main_v34 : Vec Ideal S1x128 .f32) (ix2 0 o) := by
  blk_ext [iblk2, idx2 t]
/-- The second shift, whole at every step. -/
theorem blk2_5 (o : Fin 128) : (iblk2 V c 5 t : Vec Ideal S1x128 .f32) (ix2 0 o)
    = (V c main_v37 : Vec Ideal S1x128 .f32) (ix2 0 o) := by
  blk_ext [iblk2, idx2 t]

/-- The array. -/
theorem o_final : (dat2 V c).arrAt 6 cfg2.N
    = ((fun i => oOf V c (i 0) (i 2) (i 1)) : Vec Ideal S8x128x2048 .f32) := by
  refine (dat2 V c).arrAt_eq_of_covers 6 _ (by decide +kernel) fun t _ y => ?_
  blk_simp
  rw [after2_6]
  obtain ⟨z, o, p, rfl⟩ : ∃ (z : Fin 1) (o : Fin 128) (p : Fin 256), y = ix3 z o p := ⟨y 0, y 1, y 2, by blk_ext⟩
  obtain rfl : z = 0 := Subsingleton.elim _ _
  refine (out_out _ _ _ _ _ _ p o).trans ?_
  have he : (win2_6.blk t).view.emb (ix3 0 o p) = ix3 (cloud2 t) o (tilePt (tile2 t) p) := by blk_ext [idx2 t]
  rw [he]
  have e : oOf V c (cloud2 t) (tilePt (tile2 t) p) o = outVal ((iblk2 V c 2 t : Vec Ideal S1x128 .f32) (ix2 0 o))
      ((iblk2 V c 3 t : Vec Ideal S1x128 .f32) (ix2 0 o)) ((iblk2 V c 4 t : Vec Ideal S1x128 .f32) (ix2 0 o))
      ((iblk2 V c 5 t : Vec Ideal S1x128 .f32) (ix2 0 o)) ((iblk2 V c 0 t : Vec Ideal S1x256x128 .f32) (ix3 0 p o))
      ((iblk2 V c 1 t : Vec Ideal S1x256x128 .f32) (ix3 0 p o)) := by
    rw [blk2_0, blk2_1, blk2_2, blk2_3, blk2_4, blk2_5]; rfl
  exact e.symm

end Cert.Proof

end
-- ==== Proof.DistFacts.lean ====
/-
  The distance of two real points is real and not negative, and a normalisation with a real factor is the same written
  with a scale and a shift.
-/
module

public import proofs.«01_k».proof.Proof.Layers
public import proofs.«01_k».proof.Proof.Consts

@[expose] public section

noncomputable section

namespace Cert.Proof

open Idealize.ShloMosaic

/-- The squared distance of real points is a real, and not negative. -/
theorem dist_real (u v : Fin 3 → EReal) (hu : ∀ k, ∃ r : ℝ, u k = (r : EReal)) (hv : ∀ k, ∃ r : ℝ, v k = (r : EReal)) :
    ∃ r : ℝ, 0 ≤ r ∧ dist u v = (r : EReal) := by
  choose a ha using hu
  choose b hb using hv
  refine ⟨∑ k, (a k - b k) ^ 2, Finset.sum_nonneg fun k _ => sq_nonneg _, ?_⟩
  unfold dist
  rw [bits_neg_two]
  simp only [ha, hb, Fin.sum_univ_three]
  simp only [← EReal.coe_mul, ← EReal.coe_add, EReal.coe_eq_coe_iff]
  ring

/-- It is not −∞. -/
theorem dist_ne_bot (u v : Fin 3 → EReal) (hu : ∀ k, ∃ r : ℝ, u k = (r : EReal)) (hv : ∀ k, ∃ r : ℝ, v k = (r : EReal)) :
    dist u v ≠ ⊥ := by
  obtain ⟨r, -, h⟩ := dist_real u v hu hv
  rw [h]; exact EReal.coe_ne_bot r

/-- It is not +∞. -/
theorem dist_ne_top (u v : Fin 3 → EReal) (hu : ∀ k, ∃ r : ℝ, u k = (r : EReal)) (hv : ∀ k, ∃ r : ℝ, v k = (r : EReal)) :
    dist u v ≠ ⊤ := by
  obtain ⟨r, -, h⟩ := dist_real u v hu hv
  rw [h]; exact EReal.coe_ne_top r

/-- A scale and a shift computed from the sums are the normalisation. -/
theorem scale_shift (y : Fin 8 → Fin 2048 → Fin 128 → EReal) (γ β : EReal) (hγ : ∃ r : ℝ, γ = (r : EReal)) (o : Fin 128)
    (b : Fin 8) (n : Fin 2048) :
    y b n o * scaleSq cnt eps γ (chan y o) + shiftSq cnt eps γ β (chan y o) = normDev cnt eps γ β (chan y o) (b, n) := by
  obtain ⟨g, rfl⟩ := hγ
  obtain ⟨e, he, h⟩ := bits_eps5
  have hN : cnt = ((Fintype.card (Fin 8 × Fin 2048) : ℝ) : EReal) := by
    rw [cnt, bits_count]; norm_num
  rw [hN, eps, h]
  exact norm_eq (chan y o) (by simp) e g he β (b, n)

end Cert.Proof

end
-- ==== Proof.KernelValue.lean ====
/-
  What the kernel program's result buffer holds at the end, as the block's function of the arguments.
-/
module

public import proofs.«01_k».proof.Proof.KernelHost
public import proofs.«01_k».proof.Proof.LapRegion
public import proofs.«01_k».proof.Proof.OutRegion
public import proofs.«01_k».proof.Proof.DistFacts

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The block's arguments as one core's memory holds them. -/
def kArgs : Args where
  xa b n k := (m ((c : Thread nD τ).loc main_arg0) : Vec Ideal S8x2048x3 .f32) (ix3 b n k)
  xb b n k := (m ((c : Thread nD τ).loc main_arg1) : Vec Ideal S8x512x3 .f32) (ix3 b n k)
  fa b k n := (m ((c : Thread nD τ).loc main_arg2) : Vec Ideal S8x64x2048 .f32) (ix3 b k n)
  fb b k n := (m ((c : Thread nD τ).loc main_arg3) : Vec Ideal S8x128x512 .f32) (ix3 b k n)
  wf o k := (m ((c : Thread nD τ).loc main_arg4) : Vec Ideal S128x192 .f32) (ix2 o k)
  bf o := (m ((c : Thread nD τ).loc main_arg5) : Vec Ideal S128 .f32) (ix1 o)
  g1 o := (m ((c : Thread nD τ).loc main_arg6) : Vec Ideal S128 .f32) (ix1 o)
  b1 o := (m ((c : Thread nD τ).loc main_arg7) : Vec Ideal S128 .f32) (ix1 o)
  wl o k := (m ((c : Thread nD τ).loc main_arg8) : Vec Ideal S128x128 .f32) (ix2 o k)
  bl o := (m ((c : Thread nD τ).loc main_arg9) : Vec Ideal S128 .f32) (ix1 o)
  g2 o := (m ((c : Thread nD τ).loc main_arg10) : Vec Ideal S128 .f32) (ix1 o)
  b2 o := (m ((c : Thread nD τ).loc main_arg11) : Vec Ideal S128 .f32) (ix1 o)

/-- The fusing layer at equal arguments. -/
theorem fuseAt_congr {u u' : Fin 3 → EReal} {v v' : Fin 512 → Fin 3 → EReal} {p p' : Fin 64 → EReal}
    {q q' : Fin 512 → Fin 128 → EReal} {w w' : Fin 192 → EReal} {b b' : EReal} (hu : ∀ k, u k = u' k)
    (hv : ∀ s k, v s k = v' s k) (hp : ∀ k, p k = p' k) (hq : ∀ s k, q s k = q' s k) (hw : ∀ k, w k = w' k)
    (hb : b = b') : fuseAt u v p q w b = fuseAt u' v' p' q' w' b' := by
  obtain rfl : u = u' := funext hu
  obtain rfl : v = v' := funext fun s => funext (hv s)
  obtain rfl : p = p' := funext hp
  obtain rfl : q = q' := funext fun s => funext (hq s)
  obtain rfl : w = w' := funext hw
  rw [hb]

/-- The Laplacian layer at equal arguments. -/
theorem lapAt_congr {u u' : Fin 3 → EReal} {v v' : Fin 2048 → Fin 3 → EReal} {x x' : Fin 2048 → Fin 128 → EReal}
    {xq xq' w w' : Fin 128 → EReal} {b b' : EReal} (hu : ∀ k, u k = u' k) (hv : ∀ s k, v s k = v' s k)
    (hx : ∀ s k, x s k = x' s k) (hq : ∀ k, xq k = xq' k) (hw : ∀ k, w k = w' k) (hb : b = b') :
    lapAt u v x xq w b = lapAt u' v' x' xq' w' b' := by
  obtain rfl : u = u' := funext hu
  obtain rfl : v = v' := funext fun s => funext (hv s)
  obtain rfl : x = x' := funext fun s => funext (hx s)
  obtain rfl : xq = xq' := funext hq
  obtain rfl : w = w' := funext hw
  rw [hb]

variable (hA : (kArgs m c).Good)

/-- Before the first kernel the layer read off the buffers is the block's fusing layer. -/
theorem k_fused : yOf (V1 m ρ) c = (kArgs m c).fused := by
  funext b n o
  have e0 := W1_args m ρ c main_arg0 (by decide)
  have e1 := W1_args m ρ c main_arg1 (by decide)
  have e4 := W1_args m ρ c main_arg4 (by decide)
  have h0 := host_v0 (W0 m ρ c)
  have h1 := host_v1 (W0 m ρ c)
  have h2 := host_v2 (W0 m ρ c)
  exact fuseAt_congr (fun k => congrFun e0 _) (fun s k => congrFun e1 _) (fun k => h0 b n k) (fun s k => h1 b s k)
    (fun k => congrFun e4 _) (h2 o)

include hA

/-- The distances of the first kernel are not −∞. -/
theorem k_far (b : Fin 8) (n : Fin 2048) (s : Fin 512) :
    dist (fun k => (V1 m ρ c main_arg0 : Vec Ideal S8x2048x3 .f32) (ix3 b n k))
      (fun k => (V1 m ρ c main_arg1 : Vec Ideal S8x512x3 .f32) (ix3 b s k)) ≠ ⊥ := by
  rw [show V1 m ρ c main_arg0 = m ((c : Thread nD τ).loc main_arg0) from W1_args m ρ c main_arg0 (by decide),
    show V1 m ρ c main_arg1 = m ((c : Thread nD τ).loc main_arg1) from W1_args m ρ c main_arg1 (by decide)]
  exact dist_ne_bot _ _ (hA.xa b n) (hA.xb b s)

/-- After the first kernel: the fusing layer, -/
theorem k_y : W2 m ρ c (Proc.devRef .tc main_v3_0)
    = ((fun i => (kArgs m c).fused (i 0) (i 1) (i 2)) : Vec Ideal S8x2048x128 .f32) := by
  rw [← k_fused m ρ c]
  exact (W2_arr m ρ c 6).trans (y_final (V1 m ρ) c (k_far m ρ c hA))

/-- its sums tile by tile, -/
theorem k_ySum : W2 m ρ c (Proc.devRef .tc main_v3_1) = tileSums (kArgs m c).fused := by
  rw [← k_fused m ρ c]
  exact (W2_arr m ρ c 7).trans (ySum_final (V1 m ρ) c (k_far m ρ c hA))

/-- and the sums of its square. -/
theorem k_ySq : W2 m ρ c (Proc.devRef .tc main_v3_2)
    = tileSums fun b n o => (kArgs m c).fused b n o * (kArgs m c).fused b n o := by
  rw [← k_fused m ρ c]
  exact (W2_arr m ρ c 8).trans (ySq_final (V1 m ρ) c (k_far m ρ c hA))

/-- Before the second kernel: the fusing layer is as it was, -/
theorem k_y3 : W3 m ρ c (Proc.devRef .tc main_v3_0)
    = ((fun i => (kArgs m c).fused (i 0) (i 1) (i 2)) : Vec Ideal S8x2048x128 .f32) :=
  (W3_of m ρ c main_v3_0 (by decide)).trans (k_y m ρ c hA)

/-- the first scale, -/
theorem k_sc1 (o : Fin 128) : (W3 m ρ c (Proc.devRef .tc main_v16) : Vec Ideal S1x128 .f32) (ix2 0 o)
    = scaleSq cnt eps ((kArgs m c).g1 o) (chan (kArgs m c).fused o) :=
  (host_v16 (W2 m ρ c) (kArgs m c).fused (k_ySum m ρ c hA) (k_ySq m ρ c hA) o).trans
    (congrArg (fun z : Vec Ideal S128 .f32 => scaleSq cnt eps (z (ix1 o)) (chan (kArgs m c).fused o))
      (W2_args m ρ c main_arg6 (by decide)))

/-- and the first shift. -/
theorem k_sh1 (o : Fin 128) : (W3 m ρ c (Proc.devRef .tc main_v19) : Vec Ideal S1x128 .f32) (ix2 0 o)
    = shiftSq cnt eps ((kArgs m c).g1 o) ((kArgs m c).b1 o) (chan (kArgs m c).fused o) :=
  (host_v19 (W2 m ρ c) (kArgs m c).fused (k_ySum m ρ c hA) (k_ySq m ρ c hA) o).trans
    (congrArg₂ (fun z z' : Vec Ideal S128 .f32 => shiftSq cnt eps (z (ix1 o)) (z' (ix1 o)) (chan (kArgs m c).fused o))
      (W2_args m ρ c main_arg6 (by decide)) (W2_args m ρ c main_arg7 (by decide)))

/-- The layer scaled, shifted and activated is the block's feature. -/
theorem k_act (b : Fin 8) (n : Fin 2048) (o : Fin 128) :
    act ((W3 m ρ c (Proc.devRef .tc main_v16) : Vec Ideal S1x128 .f32) (ix2 0 o))
      ((W3 m ρ c (Proc.devRef .tc main_v19) : Vec Ideal S1x128 .f32) (ix2 0 o)) ((kArgs m c).fused b n o)
      = (kArgs m c).feat b n o := by
  rw [k_sc1 m ρ c hA, k_sh1 m ρ c hA]
  exact congrArg (fun z : EReal => max z 0) (scale_shift (kArgs m c).fused _ _ (hA.g1 o) o b n)

/-- The layer of the second kernel is the block's Laplacian layer. -/
theorem k_lap : hOf (V3 m ρ) c = (kArgs m c).lap := by
  funext b n o
  have e0 := W3_args m ρ c main_arg0 (by decide)
  have e8 := W3_args m ρ c main_arg8 (by decide)
  have e9 := W2_args m ρ c main_arg9 (by decide)
  have ey := k_y3 m ρ c hA
  have hact : ∀ i o, act ((W3 m ρ c (Proc.devRef .tc main_v16) : Vec Ideal S1x128 .f32) (ix2 0 o))
      ((W3 m ρ c (Proc.devRef .tc main_v19) : Vec Ideal S1x128 .f32) (ix2 0 o))
      ((W3 m ρ c (Proc.devRef .tc main_v3_0) : Vec Ideal S8x2048x128 .f32) (ix3 b i o)) = (kArgs m c).feat b i o := by
    intro i o
    rw [ey]
    exact k_act m ρ c hA b i o
  exact lapAt_congr (fun k => congrFun e0 _) (fun i k => congrFun e0 _) (fun i o => hact i o) (fun o => hact n o)
    (fun k => congrFun e8 _) ((host_v20 (W2 m ρ c) o).trans (congrFun e9 _))

/-- The distances of the second kernel are not +∞, -/
theorem k_near (b : Fin 8) (j i : Fin 2048) :
    dist (fun k => (V3 m ρ c main_arg0 : Vec Ideal S8x2048x3 .f32) (ix3 b i k))
      (fun k => (V3 m ρ c main_arg0 : Vec Ideal S8x2048x3 .f32) (ix3 b j k)) ≠ ⊤ := by
  rw [show V3 m ρ c main_arg0 = m ((c : Thread nD τ).loc main_arg0) from W3_args m ρ c main_arg0 (by decide)]
  exact dist_ne_top _ _ (hA.xa b i) (hA.xa b j)

/-- and few of them tie. -/
theorem k_ties (b : Fin 8) (j : Fin 2048) :
    FewTies (fun i => dist (fun k => (V3 m ρ c main_arg0 : Vec Ideal S8x2048x3 .f32) (ix3 b i k))
      (fun k => (V3 m ρ c main_arg0 : Vec Ideal S8x2048x3 .f32) (ix3 b j k))) twenty_le := by
  rw [show V3 m ρ c main_arg0 = m ((c : Thread nD τ).loc main_arg0) from W3_args m ρ c main_arg0 (by decide)]
  exact hA.ties b j

/-- After the second kernel: the Laplacian layer, -/
theorem k_h : W4 m ρ c (Proc.devRef .tc main_v21_0)
    = ((fun i => (kArgs m c).lap (i 0) (i 1) (i 2)) : Vec Ideal S8x2048x128 .f32) := by
  rw [← k_lap m ρ c hA]
  exact (W4_arr m ρ c 8).trans (h_final (V3 m ρ) c (k_near m ρ c hA) (k_ties m ρ c hA))

/-- its sums tile by tile, -/
theorem k_hSum : W4 m ρ c (Proc.devRef .tc main_v21_1) = tileSums (kArgs m c).lap := by
  rw [← k_lap m ρ c hA]
  exact (W4_arr m ρ c 9).trans (hSum_final (V3 m ρ) c (k_near m ρ c hA) (k_ties m ρ c hA))

/-- and the sums of its square. -/
theorem k_hSq : W4 m ρ c (Proc.devRef .tc main_v21_2)
    = tileSums fun b n o => (kArgs m c).lap b n o * (kArgs m c).lap b n o := by
  rw [← k_lap m ρ c hA]
  exact (W4_arr m ρ c 10).trans (hSq_final (V3 m ρ) c (k_near m ρ c hA) (k_ties m ρ c hA))

/-- The second scale, -/
theorem k_sc2 (o : Fin 128) : (W5 m ρ c (Proc.devRef .tc main_v34) : Vec Ideal S1x128 .f32) (ix2 0 o)
    = scaleSq cnt eps ((kArgs m c).g2 o) (chan (kArgs m c).lap o) :=
  (host_v34 (W4 m ρ c) (kArgs m c).lap (k_hSum m ρ c hA) (k_hSq m ρ c hA) o).trans
    (congrArg (fun z : Vec Ideal S128 .f32 => scaleSq cnt eps (z (ix1 o)) (chan (kArgs m c).lap o))
      (W4_args m ρ c main_arg10 (by decide)))

/-- and the second shift. -/
theorem k_sh2 (o : Fin 128) : (W5 m ρ c (Proc.devRef .tc main_v37) : Vec Ideal S1x128 .f32) (ix2 0 o)
    = shiftSq cnt eps ((kArgs m c).g2 o) ((kArgs m c).b2 o) (chan (kArgs m c).lap o) :=
  (host_v37 (W4 m ρ c) (kArgs m c).lap (k_hSum m ρ c hA) (k_hSq m ρ c hA) o).trans
    (congrArg₂ (fun z z' : Vec Ideal S128 .f32 => shiftSq cnt eps (z (ix1 o)) (z' (ix1 o)) (chan (kArgs m c).lap o))
      (W4_args m ρ c main_arg10 (by decide)) (W4_args m ρ c main_arg11 (by decide)))

/-- What the third kernel writes is the block's result. -/
theorem k_out : oOf (V5 m ρ) c = (kArgs m c).result := by
  funext b n o
  have e16 : W5 m ρ c (Proc.devRef .tc main_v16) = W3 m ρ c (Proc.devRef .tc main_v16) :=
    (W5_of m ρ c main_v16 (by decide)).trans (W4_of m ρ c main_v16 (by decide))
  have e19 : W5 m ρ c (Proc.devRef .tc main_v19) = W3 m ρ c (Proc.devRef .tc main_v19) :=
    (W5_of m ρ c main_v19 (by decide)).trans (W4_of m ρ c main_v19 (by decide))
  have ey : W5 m ρ c (Proc.devRef .tc main_v3_0)
      = ((fun i => (kArgs m c).fused (i 0) (i 1) (i 2)) : Vec Ideal S8x2048x128 .f32) :=
    ((W5_of m ρ c main_v3_0 (by decide)).trans (W4_of m ρ c main_v3_0 (by decide))).trans (k_y3 m ρ c hA)
  have eh : W5 m ρ c (Proc.devRef .tc main_v21_0)
      = ((fun i => (kArgs m c).lap (i 0) (i 1) (i 2)) : Vec Ideal S8x2048x128 .f32) :=
    (W5_of m ρ c main_v21_0 (by decide)).trans (k_h m ρ c hA)
  show outVal ((W5 m ρ c (Proc.devRef .tc main_v16) : Vec Ideal S1x128 .f32) (ix2 0 o))
    ((W5 m ρ c (Proc.devRef .tc main_v19) : Vec Ideal S1x128 .f32) (ix2 0 o))
    ((W5 m ρ c (Proc.devRef .tc main_v34) : Vec Ideal S1x128 .f32) (ix2 0 o))
    ((W5 m ρ c (Proc.devRef .tc main_v37) : Vec Ideal S1x128 .f32) (ix2 0 o))
    ((W5 m ρ c (Proc.devRef .tc main_v3_0) : Vec Ideal S8x2048x128 .f32) (ix3 b n o))
    ((W5 m ρ c (Proc.devRef .tc main_v21_0) : Vec Ideal S8x2048x128 .f32) (ix3 b n o)) = _
  rw [e16, e19, ey, eh, k_sc2 m ρ c hA, k_sh2 m ρ c hA]
  exact congrArg₂ (fun x z : EReal => x + z) (k_act m ρ c hA b n o)
    (scale_shift (kArgs m c).lap _ _ (hA.g2 o) o b n)

/-- The result buffer at the end. -/
theorem k_result : W6 m ρ c (Proc.devRef .tc main_v38)
    = ((fun i => (kArgs m c).result (i 0) (i 2) (i 1)) : Vec Ideal S8x128x2048 .f32) := by
  rw [← k_out m ρ c hA]
  exact (W6_arr m ρ c 6).trans (o_final (V5 m ρ) c)

end Cert.Proof
-- ==== Proof.KernelRun.lean ====
/-
  The run of the kernel program with its result: from any memory whose arguments are good, every weakly fair execution
  ends, the result buffer holds the block's function of the arguments, and the arguments are as they were.
-/
module

public import proofs.«01_k».proof.Proof.KernelValue

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

-- the implicit arguments of the launch theorem are found by unifying its conclusion with this one
set_option backward.isDefEq.respectTransparency.types false in
/-- The launch, with every buffer that outlives it read at the last segment's valuation. -/
theorem k_launch : θ_run (defs (F := Ideal)) (onTc (τ := τ) (main (F := Ideal))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v38 (by decide)),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c),
        (h c _ (mem_uc main_arg5 (by decide))).trans (W6_main_arg5 m ρ c),
        (h c _ (mem_uc main_arg6 (by decide))).trans (W6_main_arg6 m ρ c),
        (h c _ (mem_uc main_arg7 (by decide))).trans (W6_main_arg7 m ρ c),
        (h c _ (mem_uc main_arg8 (by decide))).trans (W6_main_arg8 m ρ c),
        (h c _ (mem_uc main_arg9 (by decide))).trans (W6_main_arg9 m ρ c),
        (h c _ (mem_uc main_arg10 (by decide))).trans (W6_main_arg10 m ρ c),
        (h c _ (mem_uc main_arg11 (by decide))).trans (W6_main_arg11 m ρ c)⟩)

/-- The run with the result as the block's function. -/
theorem k_run (hA : ∀ c : Dev nD, (kArgs m c).Good) :
    θ_run (defs (F := Ideal)) (onTc (τ := τ) (main (F := Ideal))) ⟨m, fun _ => 0, ρ⟩ (fun r => ∀ c : Dev nD,
      r.2.mem ((c.tc : Thread nD τ).loc main_v38)
        = ((fun i => (kArgs m c).result (i 0) (i 2) (i 1)) : Vec Ideal S8x128x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun _ h c => ⟨(h c).1.trans (k_result m ρ c (hA c)), (h c).2⟩) (k_launch m ρ)

end Cert.Proof

end
-- ==== Proof.RefDist.lean ====
/-
  The reference's two arrays of squared distances, read at an index.
-/
module

public import proofs.«01_k».proof.Proof.Spec
public import proofs.«01_k».proof.Proof.Least
public import proofs.«01_k».proof.Proof.Gen.ReferenceIdeal.Read
public import Idealize.ShloMosaic.Lib.Pointwise

@[expose] public section

set_option maxRecDepth 16384

noncomputable section

namespace Cert.Proof

open Idealize.ShloMosaic Cert.ReferenceIdeal Cert.ReferenceIdeal.Gen Cert.ReferenceIdeal.Read

variable (x0 : (⟨S8x2048x3, .f32⟩ : BufTy).Contents (Elt Ideal)) (x1 : (⟨S8x512x3, .f32⟩ : BufTy).Contents (Elt Ideal))

/-- The distance of a point of the first cloud to one of the second. -/
theorem r_dist (b : Fin 8) (n : Fin 2048) (s : Fin 512) :
    val_main_v15 (F := Ideal) x0 x1 (ix3 b n s) = dist (fun k => x0 (ix3 b n k)) (fun k => x1 (ix3 b s k)) := by
  unfold val_main_v15 val_main_v10 val_main_v5 val_main_v4 val_main_cst val_main_v3 val_main_v9 val_main_v8 val_main_v7
    val_main_v6 val_main_cst_0 val_main_v14 val_main_v13 val_main_v12 val_main_v11 val_main_cst_1
  pointwise
  rfl

/-- The reference's array of which it takes the sixteen greatest: the distances negated, the query first. -/
theorem r_negDist (b : Fin 8) (n i : Fin 2048) :
    val_main_v84 (F := Ideal) x0 (ix3 b n i)
      = neg (fun i => dist (fun k => x0 (ix3 b i k)) (fun k => x0 (ix3 b n k))) i := by
  unfold val_main_v84 val_main_v83 val_main_v82 val_main_v77 val_main_v72 val_main_v71 val_main_cst_13 val_main_v70
    val_main_v76 val_main_v75 val_main_v74 val_main_v73 val_main_cst_14 val_main_v81 val_main_v80 val_main_v79
    val_main_v78 val_main_cst_15
  pointwise
  rfl

end Cert.Proof

end
-- ==== Proof.Picks.lean ====
/-
  What `top_k` and the gather of rows give at an index. `top_k` along the last axis of a three-axis array lists, for each
  pair of the first two coordinates, the values and the indices in the order `ord` of `Rank`; the gather of rows reads
  the row its two start words name.
-/
module

public import Idealize.ShloMosaic.Lib.StableHlo
public import Idealize.ShloMosaic.PureOps
public import Idealize.ShloMosaic.PureOps.Ideal
public import Idealize.ShloMosaic.PureOps.Ideal.Laws
public import Idealize.ShloMosaic.Lib.ValueIdx
public import Idealize.ShloMosaic.Lib.Pipeline.Value
public import proofs.«01_k».proof.Proof.Rank
public import proofs.«01_k».proof.Proof.Fold

@[expose] public section

noncomputable section

namespace Cert.Proof

open Idealize.ShloMosaic Idealize.ShloMosaic.ValueIdx

variable {a b n m : ℕ}

/-- Setting the last coordinate of a three-axis index. -/
theorem along_last (p : Fin a) (q : Fin b) (j k : Fin n) :
    Shape.Idx.along (s := ⟨3, ![a, b, n]⟩) (ix3 p q j) (2 : Fin 3) k = ix3 p q k := by
  funext e
  match e with
  | ⟨0, _⟩ => rfl
  | ⟨1, _⟩ => rfl
  | ⟨2, _⟩ => rfl

/-- The order's comparison of two extended reals as a bit is one exactly when the first is greater. -/
theorem cmpTotal_gt (x y : EReal) : (FloatOps.cmpfTotal (F := Ideal) (φ := .f32) .gt x y == 1#1) = decide (y < x) := by
  show (Ideal.cmp .ogt x y == 1#1) = _
  unfold Ideal.cmp
  by_cases h : y < x <;> simp [h]

/-- `top_k`'s value at place `j` of the row `(p, q)`: the row's value at the index in that place. -/
theorem topK_value (x : (⟨3, ![a, b, n]⟩ : Shape).Idx → EReal) (hm : m ≤ n)
    (h : (⟨3, ![a, b, n]⟩ : Shape).Slices (fun _ => 0) ⟨3, ![a, b, m]⟩) (p : Fin a) (q : Fin b) (j : Fin m) :
    (Host.topK ⟨3, ![a, b, m]⟩ 2 (FloatOps.cmpfTotal (F := Ideal) (φ := .f32) .gt) x h).1 (ix3 p q j)
      = x (ix3 p q (ord (fun i => x (ix3 p q i)) (j.castLE hm))) := by
  unfold Host.topK Host.sort2
  dsimp only
  rw [extractStridedSlice_apply _ _ h (ix3 p q j) (ix3 p q (j.castLE hm)) (by intro e; match e with
    | ⟨0, _⟩ => exact (Nat.zero_add _).symm
    | ⟨1, _⟩ => exact (Nat.zero_add _).symm
    | ⟨2, _⟩ => exact (Nat.zero_add _).symm)]
  rw [dif_pos (show 2 < (⟨3, ![a, b, n]⟩ : Shape).rank from (by decide : 2 < 3))]
  dsimp only
  refine (congrArg x (along_last p q _ _)).trans (congrArg (fun k => x (ix3 p q k)) ?_)
  refine sortedFrom_gt _ _ (fun k k' => ?_) _
  exact (cmpTotal_gt _ _).trans (congrArg₂ (fun u v => decide (x u < x v)) (along_last p q _ _) (along_last p q _ _))

/-- `top_k`'s index at place `j` of the row `(p, q)`, as a word. -/
theorem topK_index (x : (⟨3, ![a, b, n]⟩ : Shape).Idx → EReal) (hm : m ≤ n)
    (h : (⟨3, ![a, b, n]⟩ : Shape).Slices (fun _ => 0) ⟨3, ![a, b, m]⟩) (p : Fin a) (q : Fin b) (j : Fin m) :
    (Host.topK ⟨3, ![a, b, m]⟩ 2 (FloatOps.cmpfTotal (F := Ideal) (φ := .f32) .gt) x h).2 (ix3 p q j)
      = word (ord (fun i => x (ix3 p q i)) (j.castLE hm)) := by
  unfold Host.topK Host.sort2
  dsimp only
  rw [extractStridedSlice_apply _ _ h (ix3 p q j) (ix3 p q (j.castLE hm)) (by intro e; match e with
    | ⟨0, _⟩ => exact (Nat.zero_add _).symm
    | ⟨1, _⟩ => exact (Nat.zero_add _).symm
    | ⟨2, _⟩ => exact (Nat.zero_add _).symm)]
  rw [dif_pos (show 2 < (⟨3, ![a, b, n]⟩ : Shape).rank from (by decide : 2 < 3))]
  dsimp only
  rw [dif_pos (show 2 < (⟨3, ![a, b, n]⟩ : Shape).rank from (by decide : 2 < 3))]
  refine (congrArg (fun u => iotaInDim (⟨3, ![a, b, n]⟩ : Shape) 32 ⟨2, (by decide : 2 < 3)⟩ u) (along_last p q _ _)).trans ?_
  show word _ = word _
  refine congrArg word ?_
  refine sortedFrom_gt _ _ (fun k k' => ?_) _
  exact (cmpTotal_gt _ _).trans (congrArg₂ (fun u v => decide (x u < x v)) (along_last p q _ _) (along_last p q _ _))

/-- The gather of rows: result `(p, i, j, r)` is column `r` of the row the two start words at `(p, i, j)` name. -/
theorem gather_row {α : Type} {s c k : ℕ}
    (wf : GatherDims.WF (⟨3, ![a, s, c]⟩ : Shape) (⟨4, ![a, b, k, 2]⟩ : Shape) (⟨4, ![a, b, k, c]⟩ : Shape)
      [3] [0, 1] [] [0, 1] [] 3 ![1, 1, c])
    (x : (⟨3, ![a, s, c]⟩ : Shape).Idx → α) (idx : IVec (⟨4, ![a, b, k, 2]⟩ : Shape) 32)
    (p : Fin a) (i : Fin b) (j : Fin k) (r : Fin c) (u : Fin a) (v : Fin s)
    (hu : (idx (ix4 p i j (0 : Fin 2))).toInt = u.val) (hv : (idx (ix4 p i j (1 : Fin 2))).toInt = v.val) :
    Host.gather (⟨[3], [0, 1], [], [], [0, 1], 3, ![1, 1, c], wf⟩ :
      GatherDims (⟨3, ![a, s, c]⟩ : Shape) (⟨4, ![a, b, k, 2]⟩ : Shape) (⟨4, ![a, b, k, c]⟩ : Shape)) x idx (ix4 p i j r)
      = x (ix3 u v r) := by
  unfold Host.gather
  set d : GatherDims (⟨3, ![a, s, c]⟩ : Shape) (⟨4, ![a, b, k, 2]⟩ : Shape) (⟨4, ![a, b, k, c]⟩ : Shape) :=
    ⟨[3], [0, 1], [], [], [0, 1], 3, ![1, 1, c], wf⟩ with hd
  have h0 : d.siIdx (ix4 p i j r) ⟨0, show 0 < 2 from by decide⟩ = ix4 p i j (0 : Fin 2) := by
    funext e
    match e with
    | ⟨0, _⟩ => rfl
    | ⟨1, _⟩ => rfl
    | ⟨2, _⟩ => rfl
    | ⟨3, _⟩ => rfl
  have h1 : d.siIdx (ix4 p i j r) ⟨1, show 1 < 2 from by decide⟩ = ix4 p i j (1 : Fin 2) := by
    funext e
    match e with
    | ⟨0, _⟩ => rfl
    | ⟨1, _⟩ => rfl
    | ⟨2, _⟩ => rfl
    | ⟨3, _⟩ => rfl
  refine congrArg x (funext fun e => Fin.ext ?_)
  match e with
  | ⟨0, _⟩ =>
    show min (idx (d.siIdx (ix4 p i j r) ⟨0, _⟩)).toInt.toNat (a - 1) + 0 + 0 = u.val
    rw [h0, hu]
    have := u.isLt
    omega
  | ⟨1, _⟩ =>
    show min (idx (d.siIdx (ix4 p i j r) ⟨1, _⟩)).toInt.toNat (s - 1) + 0 + 0 = v.val
    rw [h1, hv]
    have := v.isLt
    omega
  | ⟨2, _⟩ =>
    show 0 + 0 + r.val = r.val
    omega

end Cert.Proof

end
-- ==== Proof.RefPicks.lean ====
/-
  The rows that the reference gathers: for each point the three farthest points of the second cloud, and the sixteen
  nearest of its own.
-/
module

public import proofs.«01_k».proof.Proof.RefDist
public import proofs.«01_k».proof.Proof.Picks

@[expose] public section

set_option maxRecDepth 16384

noncomputable section

namespace Cert.Proof

open Idealize.ShloMosaic Cert.ReferenceIdeal Cert.ReferenceIdeal.Gen Cert.ReferenceIdeal.Read

/-- A word that is an index is not negative: the reference's wrap leaves it. -/
theorem wrap_word {n : ℕ} (hn : n < 2 ^ 31) (k : Fin n) (c : BitVec 32) :
    (if IntOp.cmpi .slt (word k) 0#32 = 1#1 then c else word k) = word k := by
  refine if_neg fun h => ?_
  have hs : BitVec.slt (word k) 0#32 = true := by
    by_contra hf
    simp only [Bool.not_eq_true] at hf
    simp [IntOp.cmpi, hf] at h
  rw [BitVec.slt_iff_toInt_lt, word_toInt hn] at hs
  simp at hs
  omega

variable (x0 : (⟨S8x2048x3, .f32⟩ : BufTy).Contents (Elt Ideal)) (x1 : (⟨S8x512x3, .f32⟩ : BufTy).Contents (Elt Ideal))

/-- The distances from point `n` of cloud `b` to the second cloud. -/
abbrev far (b : Fin 8) (n : Fin 2048) (s : Fin 512) : EReal := dist (fun k => x0 (ix3 b n k)) (fun k => x1 (ix3 b s k))

/-- The distances from the points of the first cloud to its point `n`. -/
abbrev near (b : Fin 8) (n : Fin 2048) (i : Fin 2048) : EReal := dist (fun k => x0 (ix3 b i k)) (fun k => x0 (ix3 b n k))

/-- A row of the second cloud has at least three columns. -/
theorem three_le : 3 ≤ 512 := by norm_num

/-- A row of the first cloud has at least sixteen columns. -/
theorem sixteen_le : 16 ≤ 2048 := by norm_num

/-- The three greatest distances. -/
theorem r_values (b : Fin 8) (n : Fin 2048) (j : Fin 3) :
    val_main_values (F := Ideal) x0 x1 (ix3 b n j) = far x0 x1 b n (ord (far x0 x1 b n) (j.castLE three_le)) := by
  refine (topK_value (val_main_v15 (F := Ideal) x0 x1) three_le sliceFits_S8x2048x512_S8x2048x3 b n j).trans ?_
  have e : (fun s => val_main_v15 (F := Ideal) x0 x1 (ix3 b n s)) = far x0 x1 b n := funext fun s => r_dist x0 x1 b n s
  exact (congrFun e _).trans (congrArg (fun f => far x0 x1 b n (ord f (j.castLE three_le))) e)

/-- Their indices. -/
theorem r_indices (b : Fin 8) (n : Fin 2048) (j : Fin 3) :
    val_main_indices (F := Ideal) x0 x1 (ix3 b n j) = word (ord (far x0 x1 b n) (j.castLE three_le)) := by
  refine (topK_index (val_main_v15 (F := Ideal) x0 x1) three_le sliceFits_S8x2048x512_S8x2048x3 b n j).trans ?_
  have e : (fun s => val_main_v15 (F := Ideal) x0 x1 (ix3 b n s)) = far x0 x1 b n := funext fun s => r_dist x0 x1 b n s
  exact congrArg (fun f => word (ord f (j.castLE three_le))) e

/-- The indices of the sixteen least distances. -/
theorem r_indices_16 (b : Fin 8) (n : Fin 2048) (j : Fin 16) :
    val_main_indices_17 (F := Ideal) x0 (ix3 b n j) = word (ord (neg (near x0 b n)) (j.castLE sixteen_le)) := by
  refine (topK_index (val_main_v84 (F := Ideal) x0) sixteen_le sliceFits_S8x2048x2048_S8x2048x16 b n j).trans ?_
  have e : (fun s => val_main_v84 (F := Ideal) x0 (ix3 b n s)) = neg (near x0 b n) := funext fun s => r_negDist x0 b n s
  exact congrArg (fun f => word (ord f (j.castLE sixteen_le))) e

/-- The cloud's number as a start word. -/
theorem r_batch (b : Fin 8) : val_main_v28 (F := Ideal) (ix3 b 0 0) = word b := by
  unfold val_main_v28 val_main_v27 val_main_v26 val_main_c_5 val_main_v25 val_main_v24 val_main_c val_main_v1 val_main_v0
  pointwise
  exact wrap_word (by norm_num) b _

/-- The same for the second gather. -/
theorem r_batch' (b : Fin 8) : val_main_v90 (F := Ideal) (ix3 b 0 0) = word b := by
  unfold val_main_v90 val_main_v89 val_main_v88 val_main_c_19 val_main_v87 val_main_v86 val_main_c_18 val_main_v1 val_main_v0
  pointwise
  exact wrap_word (by norm_num) b _

/-- The row's number as a start word. -/
theorem r_row (b : Fin 8) (n : Fin 2048) (j : Fin 3) :
    val_main_v33 (F := Ideal) x0 x1 (ix3 b n j) = word (ord (far x0 x1 b n) (j.castLE three_le)) := by
  have e := r_indices x0 x1 b n j
  unfold val_main_v33 val_main_v32 val_main_v31 val_main_c_7 val_main_v30 val_main_v29 val_main_c_6
  generalize val_main_indices (F := Ideal) x0 x1 = i at e ⊢
  pointwise
  rw [e]
  exact wrap_word (by norm_num) _ _

/-- The same for the second gather. -/
theorem r_row' (b : Fin 8) (n : Fin 2048) (j : Fin 16) :
    val_main_v95 (F := Ideal) x0 (ix3 b n j) = word (ord (neg (near x0 b n)) (j.castLE sixteen_le)) := by
  have e := r_indices_16 x0 b n j
  unfold val_main_v95 val_main_v94 val_main_v93 val_main_c_21 val_main_v92 val_main_v91 val_main_c_20
  generalize val_main_indices_17 (F := Ideal) x0 = i at e ⊢
  pointwise
  rw [e]
  exact wrap_word (by norm_num) _ _

/-- The first gather's start words. -/
theorem r_start (b : Fin 8) (n : Fin 2048) (j : Fin 3) :
    val_main_v37 (F := Ideal) x0 x1 (ix4 b n j 0) = word b
      ∧ val_main_v37 (F := Ideal) x0 x1 (ix4 b n j 1) = word (ord (far x0 x1 b n) (j.castLE three_le)) := by
  have e := r_row x0 x1 b n j
  have e' := r_batch b
  unfold val_main_v37 val_main_v36 val_main_v35 val_main_v34
  generalize val_main_v33 (F := Ideal) x0 x1 = i at e ⊢
  generalize val_main_v28 (F := Ideal) = k at e' ⊢
  constructor
  · pointwise
    exact e'
  · pointwise
    exact e

/-- The second gather's start words. -/
theorem r_start' (b : Fin 8) (n : Fin 2048) (j : Fin 16) :
    val_main_v99 (F := Ideal) x0 (ix4 b n j 0) = word b
      ∧ val_main_v99 (F := Ideal) x0 (ix4 b n j 1) = word (ord (neg (near x0 b n)) (j.castLE sixteen_le)) := by
  have e := r_row' x0 b n j
  have e' := r_batch' b
  unfold val_main_v99 val_main_v98 val_main_v97 val_main_v96
  generalize val_main_v95 (F := Ideal) x0 = i at e ⊢
  generalize val_main_v90 (F := Ideal) = k at e' ⊢
  constructor
  · pointwise
    exact e'
  · pointwise
    exact e

/-- The first gather at an index: the feature of the chosen point. -/
theorem r_gather (x : FVec Ideal S8x512x128 .f32) (b : Fin 8) (n : Fin 2048) (j : Fin 3) (c : Fin 128) :
    Host.gather gather_S8x512x128_S8x2048x3x2_S8x2048x3x128_3_01_n_n_01_3_11128 x (val_main_v37 (F := Ideal) x0 x1)
      (ix4 b n j c) = x (ix3 b (ord (far x0 x1 b n) (j.castLE three_le)) c) :=
  gather_row _ x (val_main_v37 (F := Ideal) x0 x1) b n j c b (ord (far x0 x1 b n) (j.castLE three_le))
    ((congrArg BitVec.toInt (r_start x0 x1 b n j).1).trans (word_toInt (by norm_num) b))
    ((congrArg BitVec.toInt (r_start x0 x1 b n j).2).trans (word_toInt (by norm_num) _))

/-- The second gather at an index. -/
theorem r_gather' (x : FVec Ideal S8x2048x128 .f32) (b : Fin 8) (n : Fin 2048) (j : Fin 16) (c : Fin 128) :
    Host.gather gather_S8x2048x128_S8x2048x16x2_S8x2048x16x128_3_01_n_n_01_3_11128 x (val_main_v99 (F := Ideal) x0)
      (ix4 b n j c) = x (ix3 b (ord (neg (near x0 b n)) (j.castLE sixteen_le)) c) :=
  gather_row _ x (val_main_v99 (F := Ideal) x0) b n j c b (ord (neg (near x0 b n)) (j.castLE sixteen_le))
    ((congrArg BitVec.toInt (r_start' x0 b n j).1).trans (word_toInt (by norm_num) b))
    ((congrArg BitVec.toInt (r_start' x0 b n j).2).trans (word_toInt (by norm_num) _))

end Cert.Proof

end
-- ==== Proof.RefNorm.lean ====
/-
  The reference's normalisation over clouds and points of an array whose middle axis lists the channels: at each index it
  is `normDev` of the channel's values.
-/
module

public import proofs.«01_k».proof.Proof.Sums
public import proofs.«01_k».proof.Proof.DistFacts
public import proofs.«01_k».proof.Proof.Gen.ReferenceIdeal.Read

@[expose] public section

set_option maxRecDepth 16384

noncomputable section

namespace Cert.Proof

open Idealize.ShloMosaic Cert.ReferenceIdeal Cert.ReferenceIdeal.Gen

/-- A channel's sum divided by the number of its values, as the reference writes it. -/
def rMean (y : FVec Ideal S8x128x2048 .f32) : FVec Ideal S1x128x1 .f32 :=
  Host.divf (broadcastInDim S1x128x1 ![1] bcast_S128_S1x128x1_1
      (Host.reduceAdd y (constant (F := Ideal) S_ .f32 0x00000000#32) reducesTo_S8x128x2048_S128_d0_2 h_S_))
    (broadcastInDim S1x128x1 ![] bcast_S_S1x128x1 (constant (F := Ideal) S_ .f32 0x46800000#32))

/-- The values less their channel's mean. -/
def rDev (y : FVec Ideal S8x128x2048 .f32) : FVec Ideal S8x128x2048 .f32 :=
  subf y (broadcastInDim S8x128x2048 ![0, 1, 2] bcast_S1x128x1_S8x128x2048_0_1_2 (rMean y))

/-- The number of values less the correction, which is none. -/
def rCount : FVec Ideal S_ .f32 :=
  subf (constant (F := Ideal) S_ .f32 0x46800000#32) (sitofp .f32 (constantI S_ 32 0#32))

/-- A channel's variance, as the reference writes it. -/
def rVar (y : FVec Ideal S8x128x2048 .f32) : FVec Ideal S1x128x1 .f32 :=
  select (broadcastInDim S1x128x1 ![] bcast_S_S1x128x1 (cmpf .ogt rCount (constant (F := Ideal) S_ .f32 0x00000000#32)))
    (Host.divf (broadcastInDim S1x128x1 ![1] bcast_S128_S1x128x1_1
      (Host.reduceAdd (mulf (rDev y) (rDev y)) (constant (F := Ideal) S_ .f32 0x00000000#32)
        reducesTo_S8x128x2048_S128_d0_2 h_S_))
      (broadcastInDim S1x128x1 ![] bcast_S_S1x128x1 rCount))
    (broadcastInDim S1x128x1 ![] bcast_S_S1x128x1 (id (constant (F := Ideal) S_ .f32 0x7FC00000#32)))

/-- The normalised array, as the reference writes it. -/
def rNorm (y : FVec Ideal S8x128x2048 .f32) (g be : FVec Ideal S128 .f32) : FVec Ideal S8x128x2048 .f32 :=
  addf (mulf (Host.divf (rDev y) (broadcastInDim S8x128x2048 ![0, 1, 2] bcast_S1x128x1_S8x128x2048_0_1_2
        (Host.sqrt (addf (rVar y)
          (broadcastInDim S1x128x1 ![] bcast_S_S1x128x1 (constant (F := Ideal) S_ .f32 0x3727C5AC#32))))))
      (broadcastInDim S8x128x2048 ![0, 1, 2] bcast_S1x128x1_S8x128x2048_0_1_2
        (broadcastInDim S1x128x1 ![1] bcast_S128_S1x128x1_1 g)))
    (broadcastInDim S8x128x2048 ![0, 1, 2] bcast_S1x128x1_S8x128x2048_0_1_2
      (broadcastInDim S1x128x1 ![1] bcast_S128_S1x128x1_1 be))

variable (y : FVec Ideal S8x128x2048 .f32)

/-- A channel's values. -/
abbrev rChan (o : Fin 128) (q : Fin 8 × Fin 2048) : EReal := y (ix3 q.1 o q.2)

/-- A host sum from zero over clouds and points. -/
theorem r_sum (z : FVec Ideal S8x128x2048 .f32) (o : Fin 128) :
    Host.reduceAdd z (constant (F := Ideal) S_ .f32 0x00000000#32) reducesTo_S8x128x2048_S128_d0_2 h_S_ (ix1 o)
      = ∑ q, rChan z o q := by
  refine (reduce_02 _ _ _ _ o).trans ?_
  have h0 : (constant (F := Ideal) S_ .f32 0x00000000#32 (Shape.Idx.first h_S_) : EReal) = 0 := Ideal.ofBits_zero .f32
  rw [h0, zero_add]

/-- The mean at a channel. -/
theorem rMean_apply (o : Fin 128) : rMean y (ix3 0 o 0) = mean cnt (rChan y o) := by
  have e := r_sum y o
  unfold rMean
  generalize Host.reduceAdd y _ _ _ = s at e ⊢
  pointwise
  rw [e]
  rfl

/-- A value less its channel's mean. -/
theorem rDev_apply (b : Fin 8) (o : Fin 128) (n : Fin 2048) :
    rDev y (ix3 b o n) = y (ix3 b o n) - mean cnt (rChan y o) := by
  have e := rMean_apply y o
  unfold rDev
  generalize rMean y = s at e ⊢
  pointwise
  rw [e]

/-- The count is the number of values, -/
theorem rCount_apply (i : S_.Idx) : rCount i = cnt := by
  show cnt - ((((0#32 : BitVec 32).toInt : ℤ) : ℝ) : EReal) = cnt
  simp

/-- which is positive. -/
theorem cnt_pos : 0 < cnt := by
  rw [cnt, bits_count]
  exact_mod_cast (by norm_num : (0 : ℝ) < 16384)

/-- The variance at a channel. -/
theorem rVar_apply (o : Fin 128) : rVar y (ix3 0 o 0) = varDev cnt (rChan y o) := by
  have e := r_sum (mulf (rDev y) (rDev y)) o
  have hc : ∀ i, cmpf .ogt rCount (constant (F := Ideal) S_ .f32 0x00000000#32) i = 1#1 := fun i => by
    show Ideal.cmp .ogt (rCount i) (Ideal.ofBits .f32 0x00000000#32) = 1#1
    rw [rCount_apply, Ideal.ofBits_zero_f32]
    simp [Ideal.cmp, cnt_pos]
  have hn := fun i => rCount_apply i
  unfold rVar
  generalize Host.reduceAdd (mulf (rDev y) (rDev y)) _ _ _ = s at e ⊢
  generalize cmpf .ogt rCount _ = k at hc ⊢
  generalize rCount = n at hn ⊢
  pointwise
  rw [hc, hn, e]
  refine congrArg (fun z : EReal => Ideal.div z cnt) (Finset.sum_congr rfl fun q _ => ?_)
  show rDev y _ * rDev y _ = _
  rw [rDev_apply]

/-- The normalised array at an index. -/
theorem rNorm_apply (g be : FVec Ideal S128 .f32) (b : Fin 8) (o : Fin 128) (n : Fin 2048) :
    rNorm y g be (ix3 b o n) = normDev cnt eps (g (ix1 o)) (be (ix1 o)) (rChan y o) (b, n) := by
  have e := rDev_apply y b o n
  have e' := rVar_apply y o
  unfold rNorm
  generalize rDev y = d at e ⊢
  generalize rVar y = v at e' ⊢
  pointwise
  rw [e, e']
  rfl

end Cert.Proof

end
-- ==== Proof.RefValue.lean ====
/-
  The reference's result as the block's function of the arguments.
-/
module

public import proofs.«01_k».proof.Proof.RefPicks
public import proofs.«01_k».proof.Proof.RefNorm

@[expose] public section

set_option maxRecDepth 16384

noncomputable section

namespace Cert.Proof

open Idealize.ShloMosaic Cert.ReferenceIdeal Cert.ReferenceIdeal.Gen Cert.ReferenceIdeal.Read

variable (x0 : (⟨S8x2048x3, .f32⟩ : BufTy).Contents (Elt Ideal)) (x1 : (⟨S8x512x3, .f32⟩ : BufTy).Contents (Elt Ideal))
  (x2 : (⟨S8x64x2048, .f32⟩ : BufTy).Contents (Elt Ideal)) (x3 : (⟨S8x128x512, .f32⟩ : BufTy).Contents (Elt Ideal))
  (x4 : (⟨S128x192, .f32⟩ : BufTy).Contents (Elt Ideal)) (x5 x6 x7 : (⟨S128, .f32⟩ : BufTy).Contents (Elt Ideal))
  (x8 : (⟨S128x128, .f32⟩ : BufTy).Contents (Elt Ideal)) (x9 x10 x11 : (⟨S128, .f32⟩ : BufTy).Contents (Elt Ideal))

/-- The block's arguments as the reference's arrays hold them. -/
def rArgs : Args where
  xa b n k := x0 (ix3 b n k)
  xb b n k := x1 (ix3 b n k)
  fa b k n := x2 (ix3 b k n)
  fb b k n := x3 (ix3 b k n)
  wf o k := x4 (ix2 o k)
  bf o := x5 (ix1 o)
  g1 o := x6 (ix1 o)
  b1 o := x7 (ix1 o)
  wl o k := x8 (ix2 o k)
  bl o := x9 (ix1 o)
  g2 o := x10 (ix1 o)
  b2 o := x11 (ix1 o)

/-- The reciprocal of a distance, in the reference. -/
theorem r_recip (b : Fin 8) (n : Fin 2048) (j : Fin 3) :
    val_main_v19 (F := Ideal) x0 x1 (ix3 b n j) = wgt (far x0 x1 b n (ord (far x0 x1 b n) (j.castLE three_le))) := by
  have e := r_values x0 x1 b n j
  unfold val_main_v19 val_main_v18 val_main_cst_3 val_main_v17 val_main_v16 val_main_cst_2
  generalize val_main_values (F := Ideal) x0 x1 = v at e ⊢
  pointwise
  rw [e]
  rfl

/-- The weight of a chosen point. -/
theorem r_weight (b : Fin 8) (n : Fin 2048) (j : Fin 3) :
    val_main_v23 (F := Ideal) x0 x1 (ix3 b n j)
      = Ideal.div (wgt (far x0 x1 b n (ord (far x0 x1 b n) (j.castLE three_le)))) (wsum (far x0 x1 b n)) := by
  have e := fun j => r_recip x0 x1 b n j
  unfold val_main_v23 val_main_v22 val_main_v21 val_main_v20 val_main_cst_4
  generalize val_main_v19 (F := Ideal) x0 x1 = v at e ⊢
  pointwise
  simp only [e]
  rfl

/-- The weight of a distance that is a real and not negative is a positive real. -/
theorem wgt_real (v : EReal) (hv : ∃ r : ℝ, 0 ≤ r ∧ v = (r : EReal)) : ∃ r : ℝ, 0 < r ∧ wgt v = (r : EReal) := by
  obtain ⟨r, hr, rfl⟩ := hv
  obtain ⟨e, he, h⟩ := bits_eps8
  refine ⟨1 / (r + e), by positivity, ?_⟩
  rw [wgt, h, ← EReal.coe_add]
  exact div_coe 1 (r + e) (by positivity)

/-- Summing over the three chosen points is summing over all points with the others' weights zero. -/
theorem interp_eq (f x : Fin 512 → EReal) (hf : ∀ s, ∃ r : ℝ, 0 ≤ r ∧ f s = (r : EReal)) :
    ∑ j : Fin 3, x (ord f (j.castLE three_le)) * Ideal.div (wgt (f (ord f (j.castLE three_le)))) (wsum f) = interp f x := by
  choose w hw hwe using fun s => wgt_real (f s) (hf s)
  have hs : wsum f = ((∑ j : Fin 3, w (ord f (j.castLE three_le)) : ℝ) : EReal) := by
    rw [wsum, ← sum_coe]
    exact Finset.sum_congr rfl fun j _ => hwe _
  have hpos : 0 < ∑ j : Fin 3, w (ord f (j.castLE three_le)) :=
    Finset.sum_pos (fun j _ => hw _) Finset.univ_nonempty
  refine (sum_ord f three_le fun s => x s * Ideal.div (wgt (f s)) (wsum f)).trans (Finset.sum_congr rfl fun s _ => ?_)
  by_cases h : rank f s < 3
  · rw [if_pos h, if_pos h, mul_comm]
  · have h0 : Ideal.div 0 (wsum f) = 0 := by
      rw [hs]
      exact (div_coe 0 _ hpos.ne').trans (by simp)
    rw [if_neg h, if_neg h, h0, zero_mul]

/-- The interpolated feature. -/
theorem r_interp (hf : ∀ b n s, ∃ r : ℝ, 0 ≤ r ∧ far x0 x1 b n s = (r : EReal)) (b : Fin 8) (n : Fin 2048) (c : Fin 128) :
    val_main_v42 (F := Ideal) x0 x1 x3 (ix3 b n c) = interp (far x0 x1 b n) fun s => x3 (ix3 b c s) := by
  have e := fun j => r_weight x0 x1 b n j
  have e' := fun j => r_gather x0 x1 (val_main_v2 (F := Ideal) x3) b n j c
  have e2 : ∀ s, val_main_v2 (F := Ideal) x3 (ix3 b s c) = x3 (ix3 b c s) := fun s => by
    unfold val_main_v2
    pointwise
  unfold val_main_v42 val_main_v41 val_main_v40 val_main_v39 val_main_cst_8 val_main_v38
  generalize Host.gather _ (val_main_v2 (F := Ideal) x3) _ = g at e' ⊢
  generalize val_main_v23 (F := Ideal) x0 x1 = w at e ⊢
  pointwise
  exact (Finset.sum_congr rfl fun j _ => congrArg₂ (fun p q : EReal => p * q) ((e' j).trans (e2 _)) (e j)).trans
    (interp_eq (far x0 x1 b n) (fun s => (x3 (ix3 b c s) : EReal)) (hf b n))

/-- The fusing layer. -/
theorem r_fused (hf : ∀ b n s, ∃ r : ℝ, 0 ≤ r ∧ far x0 x1 b n s = (r : EReal)) (b : Fin 8) (o : Fin 128) (n : Fin 2048) :
    val_main_v50 (F := Ideal) x0 x1 x2 x3 x4 x5 (ix3 b o n)
      = (rArgs x0 x1 x2 x3 x4 x5 x6 x7 x8 x9 x10 x11).fused b n o := by
  have e := fun c => r_interp x0 x1 x3 hf b n c
  unfold val_main_v50 val_main_v49 val_main_v48 val_main_v47 val_main_v46 val_main_v45 val_main_v44 val_main_v43
  generalize val_main_v42 (F := Ideal) x0 x1 x3 = t at e ⊢
  pointwise
  exact congrArg (fun z : EReal => z + x5 (ix1 o)) (congrArg (fun z : EReal => (∑ k : Fin 64, x2 (ix3 b k n) * x4 (ix2 o ⟨k.1, by omega⟩)) + z)
    (Finset.sum_congr rfl fun c _ => congrArg (fun z : EReal => z * x4 (ix2 o ⟨64 + c.1, by omega⟩)) (e c)))

/-- The features. -/
theorem r_feat (hf : ∀ b n s, ∃ r : ℝ, 0 ≤ r ∧ far x0 x1 b n s = (r : EReal)) (b : Fin 8) (o : Fin 128) (n : Fin 2048) :
    val_main_v69 (F := Ideal) x0 x1 x2 x3 x4 x5 x6 x7 (ix3 b o n)
      = (rArgs x0 x1 x2 x3 x4 x5 x6 x7 x8 x9 x10 x11).feat b n o := by
  have e : val_main_v68 (F := Ideal) x0 x1 x2 x3 x4 x5 x6 x7 (ix3 b o n)
      = normDev cnt eps (x6 (ix1 o)) (x7 (ix1 o)) (chan (rArgs x0 x1 x2 x3 x4 x5 x6 x7 x8 x9 x10 x11).fused o) (b, n) := by
    have h : val_main_v68 (F := Ideal) x0 x1 x2 x3 x4 x5 x6 x7 = rNorm (val_main_v50 (F := Ideal) x0 x1 x2 x3 x4 x5) x6 x7 := rfl
    rw [h, rNorm_apply]
    exact congrArg (fun y => normDev cnt eps (x6 (ix1 o)) (x7 (ix1 o)) y (b, n)) (funext fun q => r_fused x0 x1 x2 x3 x4 x5 x6 x7 x8 x9 x10 x11 hf q.1 o q.2)
  unfold val_main_v69 val_main_call1_v0 val_main_call1_cst
  generalize val_main_v68 (F := Ideal) x0 x1 x2 x3 x4 x5 x6 x7 = t at e ⊢
  pointwise
  exact congrArg (fun z : EReal => max z 0) e

/-- Summing over the sixteen chosen points is summing over all points with the others zero. -/
theorem nearSum_eq (f x : Fin 2048 → EReal) :
    ∑ j : Fin 16, x (ord (neg f) (j.castLE sixteen_le)) = nearSum f x :=
  sum_ord (neg f) sixteen_le x

/-- The layer over the differences from the neighbours' sum. -/
theorem r_lap (hf : ∀ b n s, ∃ r : ℝ, 0 ≤ r ∧ far x0 x1 b n s = (r : EReal)) (b : Fin 8) (o : Fin 128) (n : Fin 2048) :
    val_main_v109 (F := Ideal) x0 x1 x2 x3 x4 x5 x6 x7 x8 x9 (ix3 b o n)
      = (rArgs x0 x1 x2 x3 x4 x5 x6 x7 x8 x9 x10 x11).lap b n o := by
  have e := fun n c => r_feat x0 x1 x2 x3 x4 x5 x6 x7 x8 x9 x10 x11 hf b c n
  have e1 : ∀ c, val_main_v101 (F := Ideal) x0 x1 x2 x3 x4 x5 x6 x7 (ix3 b n c)
      = nearSum (near x0 b n) fun i => (rArgs x0 x1 x2 x3 x4 x5 x6 x7 x8 x9 x10 x11).feat b i c := fun c => by
    have e' := fun j => r_gather' x0 (val_main_v85 (F := Ideal) x0 x1 x2 x3 x4 x5 x6 x7) b n j c
    have e2 : ∀ i, val_main_v85 (F := Ideal) x0 x1 x2 x3 x4 x5 x6 x7 (ix3 b i c) = val_main_v69 (F := Ideal) x0 x1 x2 x3 x4 x5 x6 x7 (ix3 b c i) := fun i => by
      unfold val_main_v85
      generalize val_main_v69 (F := Ideal) x0 x1 x2 x3 x4 x5 x6 x7 = t
      pointwise
    unfold val_main_v101 val_main_cst_22 val_main_v100
    generalize Host.gather _ (val_main_v85 (F := Ideal) x0 x1 x2 x3 x4 x5 x6 x7) _ = g at e' ⊢
    pointwise
    exact (Finset.sum_congr rfl fun j _ => ((e' j).trans (e2 _)).trans (e _ c)).trans
      (nearSum_eq (near x0 b n) fun i => (rArgs x0 x1 x2 x3 x4 x5 x6 x7 x8 x9 x10 x11).feat b i c)
  unfold val_main_v109 val_main_call2_v0 val_main_call2_cst val_main_v108 val_main_v107 val_main_v106 val_main_v105 val_main_v104 val_main_v103
    val_main_v102
  generalize val_main_v101 (F := Ideal) x0 x1 x2 x3 x4 x5 x6 x7 = s at e1 ⊢
  generalize val_main_v69 (F := Ideal) x0 x1 x2 x3 x4 x5 x6 x7 = t at e ⊢
  pointwise
  exact congrArg (fun z : EReal => max (z + x9 (ix1 o)) 0)
    (Finset.sum_congr rfl fun c _ => congrArg₂ (fun p q : EReal => (p - q) * x8 (ix2 o c)) (e1 c) (e n c))

/-- The result. -/
theorem r_result (hf : ∀ b n s, ∃ r : ℝ, 0 ≤ r ∧ far x0 x1 b n s = (r : EReal)) (b : Fin 8) (o : Fin 128) (n : Fin 2048) :
    val_main_v128 (F := Ideal) x0 x1 x2 x3 x4 x5 x6 x7 x8 x9 x10 x11 (ix3 b o n)
      = (rArgs x0 x1 x2 x3 x4 x5 x6 x7 x8 x9 x10 x11).result b n o := by
  have e := r_feat x0 x1 x2 x3 x4 x5 x6 x7 x8 x9 x10 x11 hf b o n
  have e1 : val_main_v127 (F := Ideal) x0 x1 x2 x3 x4 x5 x6 x7 x8 x9 x10 x11 (ix3 b o n)
      = normDev cnt eps (x10 (ix1 o)) (x11 (ix1 o)) (chan (rArgs x0 x1 x2 x3 x4 x5 x6 x7 x8 x9 x10 x11).lap o) (b, n) := by
    have h : val_main_v127 (F := Ideal) x0 x1 x2 x3 x4 x5 x6 x7 x8 x9 x10 x11
        = rNorm (val_main_v109 (F := Ideal) x0 x1 x2 x3 x4 x5 x6 x7 x8 x9) x10 x11 := rfl
    rw [h, rNorm_apply]
    exact congrArg (fun y => normDev cnt eps (x10 (ix1 o)) (x11 (ix1 o)) y (b, n)) (funext fun q => r_lap x0 x1 x2 x3 x4 x5 x6 x7 x8 x9 x10 x11 hf q.1 o q.2)
  unfold val_main_v128
  generalize val_main_v69 (F := Ideal) x0 x1 x2 x3 x4 x5 x6 x7 = t at e ⊢
  generalize val_main_v127 (F := Ideal) x0 x1 x2 x3 x4 x5 x6 x7 x8 x9 x10 x11 = s at e1 ⊢
  pointwise
  exact congrArg₂ (fun p q : EReal => p + q) e e1

end Cert.Proof

end
-- ==== Proof.RefRun.lean ====
/-
  The run of the reference program with its result.
-/
module

public import proofs.«01_k».proof.Proof.RefValue
public import proofs.«01_k».proof.Proof.DistFacts
public import proofs.«01_k».proof.Proof.Gen.ReferenceIdeal.Run

@[expose] public section

set_option maxRecDepth 16384

noncomputable section

namespace Cert.Proof

open Idealize.ShloMosaic Idealize.ShloMosaic.TcCoe Idealize.ShloMosaic.StableHlo Idealize.SL.Sem
open Cert.ReferenceIdeal Cert.ReferenceIdeal.Gen Cert.ReferenceIdeal.Read

variable (m : (ℓ : Loc nD τ sig) → Buf (Elt Ideal) ℓ) (ρ : Dev nD → PrngReg)

/-- The block's arguments in the reference's memory. -/
def mArgs (c : Dev nD) : Args :=
  rArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- Every index of the result is a cloud, a channel and a point. -/
theorem eq_ix3 (i : S8x128x2048.Idx) : i = ix3 (i 0) (i 1) (i 2) := by
  funext k
  fin_cases k <;> rfl

/-- The reference's result as a whole array. -/
theorem r_array (x0 : (⟨S8x2048x3, .f32⟩ : BufTy).Contents (Elt Ideal)) (x1 : (⟨S8x512x3, .f32⟩ : BufTy).Contents (Elt Ideal))
    (x2 : (⟨S8x64x2048, .f32⟩ : BufTy).Contents (Elt Ideal)) (x3 : (⟨S8x128x512, .f32⟩ : BufTy).Contents (Elt Ideal))
    (x4 : (⟨S128x192, .f32⟩ : BufTy).Contents (Elt Ideal)) (x5 x6 x7 : (⟨S128, .f32⟩ : BufTy).Contents (Elt Ideal))
    (x8 : (⟨S128x128, .f32⟩ : BufTy).Contents (Elt Ideal)) (x9 x10 x11 : (⟨S128, .f32⟩ : BufTy).Contents (Elt Ideal))
    (hA : (rArgs x0 x1 x2 x3 x4 x5 x6 x7 x8 x9 x10 x11).Good) :
    val_main_v128 (F := Ideal) x0 x1 x2 x3 x4 x5 x6 x7 x8 x9 x10 x11
      = ((fun i => (rArgs x0 x1 x2 x3 x4 x5 x6 x7 x8 x9 x10 x11).result (i 0) (i 2) (i 1)) : FVec Ideal S8x128x2048 .f32) := by
  have hf : ∀ b n s, ∃ r : ℝ, 0 ≤ r ∧ far x0 x1 b n s = (r : EReal) := fun b n s => dist_real _ _ (hA.xa b n) (hA.xb b s)
  funext i
  exact (congrArg (val_main_v128 (F := Ideal) x0 x1 x2 x3 x4 x5 x6 x7 x8 x9 x10 x11) (eq_ix3 i)).trans
    (r_result x0 x1 x2 x3 x4 x5 x6 x7 x8 x9 x10 x11 hf (i 0) (i 1) (i 2))

/-- From any memory whose arguments are good, the reference ends with the block's function of the arguments in its result
    buffer and the arguments as they were. -/
theorem r_run (hA : ∀ c, (mArgs m c).Good) :
    θ_run (defs (F := Ideal)) (onTc (τ := τ) (main (F := Ideal))) ⟨m, fun _ => 0, ρ⟩ (fun r => ∀ c : Dev nD,
      r.2.mem ((c.tc : Thread nD τ).loc main_v128) = ((fun i => (mArgs m c).result (i 0) (i 2) (i 1)) : FVec Ideal S8x128x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run _ _ _).mono (fun r h c => ⟨?_, (h c).2⟩) (Cert.ReferenceIdeal.Value.run (F := Ideal) m ρ)
  exact ((h c).1.trans (val_main_v128_eq (F := Ideal) (launchContents m c))).trans (r_array _ _ _ _ _ _ _ _ _ _ _ _ (hA c))

end Cert.Proof

end
-- ==== Proof.Pre.lean ====
/-
  The precondition read: what its four arrays of ones say of the arguments.
-/
module

public import proofs.«01_k».proof.Proof.Layers
public import proofs.«01_k».proof.Proof.Consts
public import proofs.«01_k».proof.Proof.Picks
public import proofs.«01_k».proof.Pre_few_ties
public import Idealize.ShloMosaic.Lib.Pointwise

@[expose] public section

set_option maxRecDepth 16384

noncomputable section

namespace Cert.Proof

open Idealize.ShloMosaic Cert.Pre_few_ties

/-- The side conditions of the precondition's operations. -/
instance preFacts : Cert.Pre_few_ties.Facts where
  bcast_S_S8x2048x2048 := by decide
  reducesTo_S8x2048x3_S8x2048_d2 := by decide
  h_S_ := by decide
  bcast_S8x2048_S8x2048x1_0_1 := by decide
  bcast_S8x2048x1_S8x2048x2048_0_1_2 := by decide
  bcast_S8x2048_S8x1x2048_0_2 := by decide
  bcast_S8x1x2048_S8x2048x2048_0_1_2 := by decide
  transposes_S8x2048x2048_S8x2048x2048_0_2_1 := by decide
  sliceFits_S8x2048x2048_S8x2048x20 := by decide
  slices_S8x2048x20_S8x2048x19_0_0_0 := by decide
  slices_S8x2048x20_S8x2048x19_0_0_1 := by decide
  reducesTo_S8x2048x19_S8x2048_d2 := by decide
  bcast_S_S8x2048 := by decide
  bcast_S_S8x512x3 := by decide
  bcast_S_S128 := by decide
  dot_S8x2048x3_S8x2048x3_S8x2048x2048_2_2_1_1_0_0_wf := by decide

/-- The distances of the first cloud to itself as the precondition computes them. -/
def pDist (x0 : FVec Ideal S8x2048x3 .f32) : FVec Ideal S8x2048x2048 .f32 :=
  addf (addf (mulf (broadcastInDim S8x2048x2048 ![] Facts.bcast_S_S8x2048x2048 (constant (F := Ideal) S_ .f32 0xC0000000#32))
        (Host.dotGeneral dot_S8x2048x3_S8x2048x3_S8x2048x2048_2_2_1_1_0_0 none x0 x0))
      (broadcastInDim S8x2048x2048 ![0, 1, 2] Facts.bcast_S8x2048x1_S8x2048x2048_0_1_2
        (broadcastInDim S8x2048x1 ![0, 1] Facts.bcast_S8x2048_S8x2048x1_0_1
          (Host.reduceAdd (mulf x0 x0) (constant (F := Ideal) S_ .f32 0x00000000#32) Facts.reducesTo_S8x2048x3_S8x2048_d2 Facts.h_S_))))
    (broadcastInDim S8x2048x2048 ![0, 1, 2] Facts.bcast_S8x1x2048_S8x2048x2048_0_1_2
      (broadcastInDim S8x1x2048 ![0, 2] Facts.bcast_S8x2048_S8x1x2048_0_2
        (Host.reduceAdd (mulf x0 x0) (constant (F := Ideal) S_ .f32 0x00000000#32) Facts.reducesTo_S8x2048x3_S8x2048_d2 Facts.h_S_)))

/-- The same negated, the query first. -/
def pNeg (x0 : FVec Ideal S8x2048x3 .f32) : FVec Ideal S8x2048x2048 .f32 :=
  Host.negf (transpose S8x2048x2048 [0, 2, 1] (pDist x0) Facts.transposes_S8x2048x2048_S8x2048x2048_0_2_1)

/-- The twenty greatest of each row. -/
def pTop (x0 : FVec Ideal S8x2048x3 .f32) : FVec Ideal S8x2048x20 .f32 :=
  (Host.topK S8x2048x20 2 (FloatOps.cmpfTotal .gt) (pNeg x0) Facts.sliceFits_S8x2048x2048_S8x2048x20).1

/-- The strict drops between neighbours in a row of twenty, counted and set against sixteen. -/
def pDrops (v : FVec Ideal S8x2048x20 .f32) : IVec S8x2048 1 :=
  cmpf .oge (Host.reduceAdd (uitofp .f32 (cmpf .ogt (extractStridedSlice S8x2048x19 ![0, 0, 0] v Facts.slices_S8x2048x20_S8x2048x19_0_0_0)
        (extractStridedSlice S8x2048x19 ![0, 0, 1] v Facts.slices_S8x2048x20_S8x2048x19_0_0_1)))
      (constant (F := Ideal) S_ .f32 0x00000000#32) Facts.reducesTo_S8x2048x19_S8x2048_d2 Facts.h_S_)
    (broadcastInDim S8x2048 ![] Facts.bcast_S_S8x2048 (constant (F := Ideal) S_ .f32 0x41800000#32))

/-- A point's distances from the points of its own cloud. -/
def near' (x0 : FVec Ideal S8x2048x3 .f32) (b : Fin 8) (n : Fin 2048) : Fin 2048 → EReal :=
  fun i => dist (fun k => x0 (ix3 b i k)) (fun k => x0 (ix3 b n k))

/-- The precondition's distances at an index. -/
theorem pNeg_apply (x0 : FVec Ideal S8x2048x3 .f32) (b : Fin 8) (n i : Fin 2048) :
    pNeg x0 (ix3 b n i) = neg (near' x0 b n) i := by
  unfold pNeg pDist
  pointwise
  rfl

/-- A value of the twenty at an index. -/
theorem pTop_apply (x0 : FVec Ideal S8x2048x3 .f32) (b : Fin 8) (n : Fin 2048) (j : Fin 20) :
    pTop x0 (ix3 b n j) = neg (near' x0 b n) (ord (neg (near' x0 b n)) (j.castLE twenty_le)) := by
  have e : (fun s => (pNeg x0 (ValueIdx.ix3 b n s) : EReal)) = neg (near' x0 b n) := funext fun s => pNeg_apply x0 b n s
  have h := topK_value (pNeg x0) twenty_le Facts.sliceFits_S8x2048x2048_S8x2048x20 b n j
  unfold pTop
  generalize pNeg x0 = y at e h ⊢
  refine h.trans ((congrFun e _).trans ?_)
  rw [e]

/-- Where the count passes, at least sixteen of the nineteen neighbours drop. -/
theorem pDrops_card (v : FVec Ideal S8x2048x20 .f32) (b : Fin 8) (n : Fin 2048) (h : pDrops v (ix2 b n) = 1#1) :
    16 ≤ (Finset.univ.filter fun j : Fin 19 => (v (ix3 b n j.succ) : EReal) < v (ix3 b n j.castSucc)).card := by
  unfold pDrops at h
  revert h
  pointwise
  intro h
  have hc : Ideal.ofBits .f32 0x41800000#32 ≤ ∑ j : Fin 19, FloatOps.uitofp (F := Ideal) .f32
      (BitVec.ofBool (decide ((v (ix3 b n ⟨1 + j.1, by omega⟩) : EReal) < v (ix3 b n ⟨j.1, by omega⟩)))) := by
    by_contra hn
    rw [decide_eq_false hn] at h
    exact absurd h (by decide)
  have hs : ∀ j : Fin 19, FloatOps.uitofp (F := Ideal) .f32
      (BitVec.ofBool (decide ((v (ix3 b n ⟨1 + j.1, by omega⟩) : EReal) < v (ix3 b n ⟨j.1, by omega⟩))))
      = ((if (v (ix3 b n j.succ) : EReal) < v (ix3 b n j.castSucc) then (1 : ℝ) else 0 : ℝ) : EReal) := fun j => by
    have e : (⟨1 + j.1, by omega⟩ : Fin 20) = j.succ := Fin.ext (Nat.add_comm 1 j.1)
    have e' : (⟨j.1, by omega⟩ : Fin 20) = j.castSucc := rfl
    rw [e, e']
    by_cases hj : (v (ix3 b n j.succ) : EReal) < v (ix3 b n j.castSucc)
    · rw [decide_eq_true hj, if_pos hj]
      exact congrArg (fun r : ℝ => (r : EReal)) (by rw [show (BitVec.ofBool true).toNat = 1 from rfl]; norm_num)
    · rw [decide_eq_false hj, if_neg hj]
      exact congrArg (fun r : ℝ => (r : EReal)) (by norm_num)
  rw [Finset.sum_congr rfl fun j _ => hs j, sum_coe, bits_16, EReal.coe_le_coe_iff, Finset.sum_boole] at hc
  exact_mod_cast hc

section
variable (x0 : FVec Ideal S8x2048x3 .f32) (x1 : FVec Ideal S8x512x3 .f32) (x2 : FVec Ideal S8x64x2048 .f32)
  (x3 : FVec Ideal S8x128x512 .f32) (x4 : FVec Ideal S128x192 .f32) (x5 x6 x7 : FVec Ideal S128 .f32)
  (x8 : FVec Ideal S128x128 .f32) (x9 x10 x11 : FVec Ideal S128 .f32)

/-- The first array is the count of drops. -/
theorem fn_ties : (fn (F := Ideal) x0 x1 x2 x3 x4 x5 x6 x7 x8 x9 x10 x11).1 = pDrops (pTop x0) := rfl

/-- The second array is where the second cloud's coordinates are below infinity in size. -/
theorem fn_xb : (fn (F := Ideal) x0 x1 x2 x3 x4 x5 x6 x7 x8 x9 x10 x11).2.1
    = cmpf .olt (Host.absf x1) (broadcastInDim S8x512x3 ![] Facts.bcast_S_S8x512x3 (constant (F := Ideal) S_ .f32 0x7F800000#32)) := rfl

/-- The third, the first scale's. -/
theorem fn_g1 : (fn (F := Ideal) x0 x1 x2 x3 x4 x5 x6 x7 x8 x9 x10 x11).2.2.1
    = cmpf .olt (Host.absf x6) (broadcastInDim S128 ![] Facts.bcast_S_S128 (constant (F := Ideal) S_ .f32 0x7F800000#32)) := rfl

/-- The fourth, the second scale's. -/
theorem fn_g2 : (fn (F := Ideal) x0 x1 x2 x3 x4 x5 x6 x7 x8 x9 x10 x11).2.2.2
    = cmpf .olt (Host.absf x10) (broadcastInDim S128 ![] Facts.bcast_S_S128 (constant (F := Ideal) S_ .f32 0x7F800000#32)) := rfl

end

/-- A value whose size is below infinity is a real. -/
theorem real_of_below (v : EReal) (h : BitVec.ofBool (decide (max v (-v) < Ideal.ofBits .f32 0x7F800000#32)) = 1#1) :
    ∃ r : ℝ, v = (r : EReal) := by
  have hc : max v (-v) < ⊤ := by
    rw [bits_top] at h
    by_contra hn
    rw [decide_eq_false hn] at h
    exact absurd h (by decide)
  refine ⟨v.toReal, (EReal.coe_toReal ?_ ?_).symm⟩
  · rintro rfl
    simp at hc
  · rintro rfl
    simp at hc

/-- An array of numbers below infinity holds reals, of the second cloud's shape. -/
theorem real_xb (x : FVec Ideal S8x512x3 .f32) (h : cmpf .olt (Host.absf x)
    (broadcastInDim S8x512x3 ![] Facts.bcast_S_S8x512x3 (constant (F := Ideal) S_ .f32 0x7F800000#32)) = fun _ => 1#1)
    (b : Fin 8) (n : Fin 512) (k : Fin 3) : ∃ r : ℝ, (x (ix3 b n k) : EReal) = (r : EReal) := by
  have h' := congrFun h (ix3 b n k)
  revert h'
  pointwise
  exact fun h' => real_of_below _ h'

/-- The same of a scale's shape. -/
theorem real_g (x : FVec Ideal S128 .f32) (h : cmpf .olt (Host.absf x)
    (broadcastInDim S128 ![] Facts.bcast_S_S128 (constant (F := Ideal) S_ .f32 0x7F800000#32)) = fun _ => 1#1)
    (o : Fin 128) : ∃ r : ℝ, (x (ix1 o) : EReal) = (r : EReal) := by
  have h' := congrFun h (ix1 o)
  revert h'
  pointwise
  exact fun h' => real_of_below _ h'

/-- Where the count of drops is all ones, every point has few ties. -/
theorem ties_of_ones (x0 : FVec Ideal S8x2048x3 .f32) (h : pDrops (pTop x0) = fun _ => 1#1) (b : Fin 8) (n : Fin 2048) :
    FewTies (near' x0 b n) twenty_le := by
  have hc := pDrops_card (pTop x0) b n (congrFun h (ix2 b n))
  simp only [pTop_apply] at hc
  exact hc

/-- A point with an infinite coordinate is at one of two distances from every point. -/
theorem dist_infinite (u v : Fin 3 → EReal) (k : Fin 3) (hk : v k = ⊤ ∨ v k = ⊥) : dist u v = ⊤ ∨ dist u v = ⊥ := by
  have hs : ∑ k, v k * v k = ⊤ := by
    refine sum_top (fun k => v k * v k) (fun k => ((EReal.bot_lt_zero).trans_le (sq_nonneg_ereal (v k))).ne') k ?_
    rcases hk with h | h <;> simp [h]
  unfold dist
  rw [hs]
  generalize Ideal.ofBits .f32 0xC0000000#32 * (∑ k, u k * v k) + (∑ k, u k * u k) = z
  induction z using EReal.rec with
  | bot => exact Or.inr (EReal.bot_add _)
  | coe r => exact Or.inl (EReal.coe_add_top r)
  | top => exact Or.inl (EReal.top_add_top)

/-- Where every point has few ties, the cloud's coordinates are reals. -/
theorem real_of_ties (x0 : FVec Ideal S8x2048x3 .f32) (b : Fin 8) (n : Fin 2048) (h : FewTies (near' x0 b n) twenty_le) (k : Fin 3) :
    ∃ r : ℝ, (x0 (ix3 b n k) : EReal) = (r : EReal) := by
  by_contra hn
  have hk : (x0 (ix3 b n k) : EReal) = ⊤ ∨ (x0 (ix3 b n k) : EReal) = ⊥ := by
    by_contra hc
    exact hn ⟨_, (EReal.coe_toReal (fun e => hc (Or.inl e)) fun e => hc (Or.inr e)).symm⟩
  have h17 := seventeen_values (near' x0 b n) twenty_le h Finset.univ fun _ _ => Finset.mem_univ _
  have hsub : Finset.univ.image (near' x0 b n) ⊆ {⊤, ⊥} := fun z hz => by
    obtain ⟨i, -, rfl⟩ := Finset.mem_image.mp hz
    have := dist_infinite (fun k => (x0 (ix3 b i k) : EReal)) (fun k => x0 (ix3 b n k)) k hk
    simpa [near'] using this
  have h2 := (Finset.card_le_card hsub).trans Finset.card_le_two
  omega

end Cert.Proof

end
-- ==== Proof.Claims.lean ====
/-
  The claims: each program ends with its arguments unchanged and its counters at zero, and where the precondition holds the
  kernel and the reference end with equal results.
-/
module

public import proofs.«01_k».proof.Defs
public import proofs.«01_k».proof.Proof.KernelRun
public import proofs.«01_k».proof.Proof.RefRun
public import proofs.«01_k».proof.Proof.Pre
public import proofs.«01_k».proof.Proof.Gen.Kernel.Frame
public import proofs.«01_k».proof.Proof.Gen.KernelIdeal.Frame
public import Idealize.ShloMosaic.Lib.Quiescent

@[expose] public section

set_option maxRecDepth 16384

noncomputable section

namespace Cert.Proof

open Idealize.ShloMosaic Idealize.ShloMosaic.TcCoe Idealize.SL.Sem

/-- The kernel as it is runs and leaves its arguments alone. -/
theorem frame_p : Cert.quiescent_Kernel := fun m ρ _ => Cert.Kernel.Gen.frame m ρ

/-- The kernel over the reals runs and leaves its arguments alone. -/
theorem frame_pi : Cert.quiescent_KernelIdeal := fun m ρ _ => Cert.KernelIdeal.Gen.frame m ρ

/-- The same where the precondition holds. -/
theorem frame_pi_pre : Cert.quiescent_KernelIdeal_pre_few_ties := fun m ρ _ => Cert.KernelIdeal.Gen.frame m ρ

/-- The reference runs and leaves its arguments alone. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_ri_pre : Cert.quiescent_ReferenceIdeal_pre_few_ties := fun m ρ _ => frame_ri m ρ trivial

/-- The kernel's text was printed with no operation rewritten. -/
theorem preserves : Cert.preserves_Kernel_KernelIdeal := trivial

/-- Where the precondition holds the kernel's arguments are good. -/
theorem good_of_pre (m : (ℓ : Loc Cert.KernelIdeal.nD Cert.KernelIdeal.τ Cert.KernelIdeal.sig) → Buf (Elt Ideal) ℓ)
    (h : Cert.Pre_KernelIdeal_few_ties m) (c : Dev Cert.KernelIdeal.nD) : (kArgs m c).Good := by
  obtain ⟨ht, hb, h1, h2⟩ := h c
  have ties := ties_of_ones _ ((fn_ties _ _ _ _ _ _ _ _ _ _ _ _).symm.trans ht)
  exact {
    xa := fun b n => real_of_ties _ b n (ties b n)
    xb := real_xb _ ((fn_xb _ _ _ _ _ _ _ _ _ _ _ _).symm.trans hb)
    g1 := real_g _ ((fn_g1 _ _ _ _ _ _ _ _ _ _ _ _).symm.trans h1)
    g2 := real_g _ ((fn_g2 _ _ _ _ _ _ _ _ _ _ _ _).symm.trans h2)
    ties := ties }

/-- Memories that agree on the arguments hold the same arguments of the block. -/
theorem args_agree {m : (ℓ : Loc Cert.KernelIdeal.nD Cert.KernelIdeal.τ Cert.KernelIdeal.sig) → Buf (Elt Ideal) ℓ}
    (c : Dev Cert.KernelIdeal.nD) {x0 : FVec Ideal Cert.ReferenceIdeal.S8x2048x3 .f32} {x1 : FVec Ideal Cert.ReferenceIdeal.S8x512x3 .f32}
    {x2 : FVec Ideal Cert.ReferenceIdeal.S8x64x2048 .f32} {x3 : FVec Ideal Cert.ReferenceIdeal.S8x128x512 .f32}
    {x4 : FVec Ideal Cert.ReferenceIdeal.S128x192 .f32} {x5 x6 x7 : FVec Ideal Cert.ReferenceIdeal.S128 .f32}
    {x8 : FVec Ideal Cert.ReferenceIdeal.S128x128 .f32} {x9 x10 x11 : FVec Ideal Cert.ReferenceIdeal.S128 .f32}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11)) :
    rArgs x0 x1 x2 x3 x4 x5 x6 x7 x8 x9 x10 x11 = kArgs m c := by
  subst h0 h1 h2 h3 h4 h5 h6 h7 h8 h9 h10 h11
  rfl

/-- The kernel and the reference end with equal results. -/
theorem algebraic : Cert.algebraic_KernelIdeal_ReferenceIdeal_pre_few_ties := by
  intro m ρ m' ρ' hpre hagree
  have hA := good_of_pre m hpre
  have hE : ∀ c, mArgs m' c = kArgs m c := fun c => by
    obtain ⟨h0, h1, h2, h3, h4, h5, h6, h7, h8, h9, h10, h11⟩ := hagree c
    exact args_agree c h0 h1 h2 h3 h4 h5 h6 h7 h8 h9 h10 h11
  refine ⟨fun c => ((fun i => (kArgs m c).result (i 0) (i 2) (i 1)) : FVec Ideal Cert.KernelIdeal.S8x128x2048 .f32), k_run m ρ hA, ?_⟩
  refine (θ_run Cert.ReferenceIdeal.defs _ _).mono (fun _ h c => ⟨(h c).1.trans ?_, (h c).2⟩)
    (r_run m' ρ' fun c => by rw [hE c]; exact hA c)
  rw [hE c]

end Cert.Proof

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, preFacts,
    frame_p, frame_pi, frame_pi_pre, frame_ri, frame_ri_pre, preserves, algebraic⟩

end Cert.Proof

end
